-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "bins_per_radian" .f32 0x404BB7E4#32 ((8388608 / 2635359 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x512x512 : Shape := ⟨4, ![16, 1, 512, 512]⟩
abbrev S16x10x507x507 : Shape := ⟨4, ![16, 10, 507, 507]⟩
abbrev S1x1x512x512 : Shape := ⟨4, ![1, 1, 512, 512]⟩
abbrev S1x10x507x507 : Shape := ⟨4, ![1, 10, 507, 507]⟩
abbrev S512x512 : Shape := ⟨2, ![512, 512]⟩
abbrev S8x512 : Shape := ⟨2, ![8, 512]⟩
abbrev S520x512 : Shape := ⟨2, ![520, 512]⟩
abbrev S2x512 : Shape := ⟨2, ![2, 512]⟩
abbrev S518x512 : Shape := ⟨2, ![518, 512]⟩
abbrev S1x512 : Shape := ⟨2, ![1, 512]⟩
abbrev S519x512 : Shape := ⟨2, ![519, 512]⟩
abbrev S516x512 : Shape := ⟨2, ![516, 512]⟩
abbrev S4x512 : Shape := ⟨2, ![4, 512]⟩
abbrev S507x507 : Shape := ⟨2, ![507, 507]⟩
abbrev S1x1x507x507 : Shape := ⟨4, ![1, 1, 507, 507]⟩

abbrev nBuf : Space → Nat
  | .hbm => 2
  | .vmem => 4
  | .smem => 0
  | _ => 0

abbrev bufTy : (tb : Table) → Fin (tcTables nBuf tb) → BufTy
  | .hbm, ⟨0, _⟩ => ⟨S16x1x512x512, .f32⟩
  | .hbm, ⟨1, _⟩ => ⟨S16x10x507x507, .f32⟩
  | .local _ .vmem, ⟨0, _⟩ => ⟨S1x1x512x512, .f32⟩
  | .local _ .vmem, ⟨1, _⟩ => ⟨S1x1x512x512, .f32⟩
  | .local _ .vmem, ⟨2, _⟩ => ⟨S1x10x507x507, .f32⟩
  | .local _ .vmem, ⟨3, _⟩ => ⟨S1x10x507x507, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10x507x507 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "bins_per_radian" => some ((8388608 / 2635359 : ℝ) : EReal)
  | _ => none
-- ==== ReferenceIdeal.lean ====
abbrev S16x1x512x512 : Shape := ⟨4, ![16, 1, 512, 512]⟩
abbrev S16x512x512 : Shape := ⟨3, ![16, 512, 512]⟩
abbrev S_ : Shape := ⟨0, ![]⟩
abbrev S16x514x514 : Shape := ⟨3, ![16, 514, 514]⟩
abbrev S16x10x512x512 : Shape := ⟨4, ![16, 10, 512, 512]⟩
abbrev S16 : Shape := ⟨1, ![16]⟩
abbrev S16x1x1 : Shape := ⟨3, ![16, 1, 1]⟩
abbrev S512 : Shape := ⟨1, ![512]⟩
abbrev S1x512x1 : Shape := ⟨3, ![1, 512, 1]⟩
abbrev S1x1x512 : Shape := ⟨3, ![1, 1, 512]⟩
abbrev S16x512x512x1 : Shape := ⟨4, ![16, 512, 512, 1]⟩
abbrev S16x512x512x4 : Shape := ⟨4, ![16, 512, 512, 4]⟩
abbrev S16x10x507x507 : Shape := ⟨4, ![16, 10, 507, 507]⟩

abbrev nBuf : Space → Nat
  | .hbm => 325
  | .vmem => 0
  | .smem => 0
  | _ => 0

abbrev hbmTy0_0 (i : Nat) : BufTy := match i % 128 with
  | 0 => ⟨S16x1x512x512, .f32⟩
  | 1 => ⟨S16x512x512, .f32⟩
  | 2 => ⟨S_, .i32⟩
  | 3 => ⟨S_, .f32⟩
  | 4 => ⟨S16x514x514, .f32⟩
  | 5 => ⟨S16x512x512, .f32⟩
  | 6 => ⟨S16x512x512, .f32⟩
  | 7 => ⟨S16x512x512, .f32⟩
  | 8 => ⟨S16x512x512, .f32⟩
  | 9 => ⟨S16x512x512, .f32⟩
  | 10 => ⟨S16x512x512, .f32⟩
  | 11 => ⟨S_, .f32⟩
  | 12 => ⟨S16x512x512, .f32⟩
  | 13 => ⟨S16x512x512, .f32⟩
  | 14 => ⟨S16x512x512, .f32⟩
  | 15 => ⟨S16x512x512, .f32⟩
  | 16 => ⟨S16x512x512, .f32⟩
  | 17 => ⟨S16x512x512, .f32⟩
  | 18 => ⟨S16x512x512, .f32⟩
  | 19 => ⟨S16x512x512, .f32⟩
  | 20 => ⟨S16x512x512, .f32⟩
  | 21 => ⟨S_, .f32⟩
  | 22 => ⟨S16x512x512, .f32⟩
  | 23 => ⟨S16x512x512, .f32⟩
  | 24 => ⟨S16x512x512, .f32⟩
  | 25 => ⟨S16x512x512, .f32⟩
  | 26 => ⟨S16x512x512, .f32⟩
  | 27 => ⟨S16x512x512, .f32⟩
  | 28 => ⟨S16x512x512, .f32⟩
  | 29 => ⟨S_, .f32⟩
  | 30 => ⟨S16x512x512, .f32⟩
  | 31 => ⟨S16x512x512, .f32⟩
  | 32 => ⟨S16x512x512, .f32⟩
  | 33 => ⟨S16x512x512, .f32⟩
  | 34 => ⟨S16x512x512, .f32⟩
  | 35 => ⟨S16x512x512, .f32⟩
  | 36 => ⟨S16x512x512, .f32⟩
  | 37 => ⟨S16x512x512, .f32⟩
  | 38 => ⟨S16x512x512, .f32⟩
  | 39 => ⟨S16x512x512, .f32⟩
  | 40 => ⟨S16x512x512, .f32⟩
  | 41 => ⟨S16x512x512, .f32⟩
  | 42 => ⟨S_, .f32⟩
  | 43 => ⟨S16x512x512, .f32⟩
  | 44 => ⟨S16x512x512, .i1⟩
  | 45 => ⟨S_, .f32⟩
  | 46 => ⟨S16x512x512, .f32⟩
  | 47 => ⟨S16x512x512, .i1⟩
  | 48 => ⟨S_, .f32⟩
  | 49 => ⟨S_, .f32⟩
  | 50 => ⟨S16x512x512, .f32⟩
  | 51 => ⟨S16x512x512, .f32⟩
  | 52 => ⟨S16x512x512, .f32⟩
  | 53 => ⟨S16x512x512, .f32⟩
  | 54 => ⟨S_, .f32⟩
  | 55 => ⟨S16x512x512, .f32⟩
  | 56 => ⟨S16x512x512, .i1⟩
  | 57 => ⟨S_, .f32⟩
  | 58 => ⟨S16x512x512, .f32⟩
  | 59 => ⟨S16x512x512, .f32⟩
  | 60 => ⟨S_, .f32⟩
  | 61 => ⟨S16x512x512, .f32⟩
  | 62 => ⟨S16x512x512, .i1⟩
  | 63 => ⟨S_, .f32⟩
  | 64 => ⟨S16x512x512, .f32⟩
  | 65 => ⟨S16x512x512, .f32⟩
  | 66 => ⟨S_, .f32⟩
  | 67 => ⟨S16x512x512, .f32⟩
  | 68 => ⟨S16x512x512, .f32⟩
  | 69 => ⟨S_, .f32⟩
  | 70 => ⟨S16x512x512, .f32⟩
  | 71 => ⟨S16x512x512, .f32⟩
  | 72 => ⟨S16x512x512, .f32⟩
  | 73 => ⟨S16x512x512, .f32⟩
  | 74 => ⟨S16x512x512, .f32⟩
  | 75 => ⟨S_, .f32⟩
  | 76 => ⟨S_, .f32⟩
  | 77 => ⟨S16x512x512, .f32⟩
  | 78 => ⟨S16x512x512, .f32⟩
  | 79 => ⟨S16x512x512, .f32⟩
  | 80 => ⟨S_, .f32⟩
  | 81 => ⟨S16x512x512, .f32⟩
  | 82 => ⟨S16x512x512, .f32⟩
  | 83 => ⟨S16x512x512, .f32⟩
  | 84 => ⟨S_, .f32⟩
  | 85 => ⟨S16x512x512, .f32⟩
  | 86 => ⟨S16x512x512, .f32⟩
  | 87 => ⟨S_, .f32⟩
  | 88 => ⟨S16x512x512, .f32⟩
  | 89 => ⟨S16x512x512, .f32⟩
  | 90 => ⟨S16x512x512, .f32⟩
  | 91 => ⟨S_, .f32⟩
  | 92 => ⟨S16x512x512, .f32⟩
  | 93 => ⟨S16x512x512, .f32⟩
  | 94 => ⟨S16x512x512, .f32⟩
  | 95 => ⟨S_, .f32⟩
  | 96 => ⟨S16x512x512, .f32⟩
  | 97 => ⟨S16x512x512, .f32⟩
  | 98 => ⟨S16x512x512, .f32⟩
  | 99 => ⟨S16x512x512, .f32⟩
  | 100 => ⟨S16x512x512, .f32⟩
  | 101 => ⟨S16x512x512, .f32⟩
  | 102 => ⟨S16x512x512, .f32⟩
  | 103 => ⟨S16x512x512, .f32⟩
  | 104 => ⟨S16x512x512, .f32⟩
  | 105 => ⟨S_, .f32⟩
  | 106 => ⟨S16x512x512, .f32⟩
  | 107 => ⟨S16x512x512, .i1⟩
  | 108 => ⟨S_, .f32⟩
  | 109 => ⟨S16x512x512, .f32⟩
  | 110 => ⟨S16x512x512, .f32⟩
  | 111 => ⟨S16x512x512, .f32⟩
  | 112 => ⟨S_, .f32⟩
  | 113 => ⟨S16x512x512, .f32⟩
  | 114 => ⟨S16x512x512, .i1⟩
  | 115 => ⟨S16x512x512, .f32⟩
  | 116 => ⟨S16x512x512, .f32⟩
  | 117 => ⟨S_, .f32⟩
  | 118 => ⟨S16x512x512, .f32⟩
  | 119 => ⟨S16x512x512, .f32⟩
  | 120 => ⟨S_, .f32⟩
  | 121 => ⟨S16x512x512, .f32⟩
  | 122 => ⟨S16x512x512, .f32⟩
  | 123 => ⟨S16x512x512, .f32⟩
  | 124 => ⟨S_, .i32⟩
  | 125 => ⟨S_, .f32⟩
  | 126 => ⟨S16x512x512, .f32⟩
  | 127 => ⟨S16x512x512, .f32⟩
  | _ => ⟨S16x1x512x512, .f32⟩

abbrev hbmTy0_1 (i : Nat) : BufTy := match i % 128 with
  | 0 => ⟨S_, .f32⟩
  | 1 => ⟨S16x512x512, .f32⟩
  | 2 => ⟨S16x512x512, .i1⟩
  | 3 => ⟨S_, .f32⟩
  | 4 => ⟨S16x512x512, .f32⟩
  | 5 => ⟨S16x512x512, .i1⟩
  | 6 => ⟨S_, .f32⟩
  | 7 => ⟨S_, .i1⟩
  | 8 => ⟨S16x512x512, .i1⟩
  | 9 => ⟨S16x512x512, .i1⟩
  | 10 => ⟨S16x512x512, .i1⟩
  | 11 => ⟨S16x512x512, .f32⟩
  | 12 => ⟨S16x512x512, .f32⟩
  | 13 => ⟨S16x512x512, .f32⟩
  | 14 => ⟨S16x512x512, .f32⟩
  | 15 => ⟨S_, .i32⟩
  | 16 => ⟨S_, .f32⟩
  | 17 => ⟨S16x512x512, .f32⟩
  | 18 => ⟨S16x512x512, .f32⟩
  | 19 => ⟨S_, .f32⟩
  | 20 => ⟨S16x512x512, .f32⟩
  | 21 => ⟨S16x512x512, .i1⟩
  | 22 => ⟨S_, .f32⟩
  | 23 => ⟨S16x512x512, .f32⟩
  | 24 => ⟨S16x512x512, .i1⟩
  | 25 => ⟨S_, .f32⟩
  | 26 => ⟨S_, .i1⟩
  | 27 => ⟨S16x512x512, .i1⟩
  | 28 => ⟨S16x512x512, .i1⟩
  | 29 => ⟨S16x512x512, .i1⟩
  | 30 => ⟨S16x512x512, .f32⟩
  | 31 => ⟨S16x512x512, .f32⟩
  | 32 => ⟨S16x512x512, .f32⟩
  | 33 => ⟨S_, .i32⟩
  | 34 => ⟨S_, .f32⟩
  | 35 => ⟨S16x512x512, .f32⟩
  | 36 => ⟨S16x512x512, .f32⟩
  | 37 => ⟨S_, .f32⟩
  | 38 => ⟨S16x512x512, .f32⟩
  | 39 => ⟨S16x512x512, .i1⟩
  | 40 => ⟨S_, .f32⟩
  | 41 => ⟨S16x512x512, .f32⟩
  | 42 => ⟨S16x512x512, .i1⟩
  | 43 => ⟨S_, .f32⟩
  | 44 => ⟨S_, .i1⟩
  | 45 => ⟨S16x512x512, .i1⟩
  | 46 => ⟨S16x512x512, .i1⟩
  | 47 => ⟨S16x512x512, .i1⟩
  | 48 => ⟨S16x512x512, .f32⟩
  | 49 => ⟨S16x512x512, .f32⟩
  | 50 => ⟨S16x512x512, .f32⟩
  | 51 => ⟨S16x512x512, .f32⟩
  | 52 => ⟨S_, .f32⟩
  | 53 => ⟨S16x512x512, .f32⟩
  | 54 => ⟨S16x512x512, .f32⟩
  | 55 => ⟨S16x512x512, .f32⟩
  | 56 => ⟨S16x512x512, .f32⟩
  | 57 => ⟨S_, .f32⟩
  | 58 => ⟨S16x512x512, .f32⟩
  | 59 => ⟨S16x512x512, .f32⟩
  | 60 => ⟨S16x512x512, .f32⟩
  | 61 => ⟨S16x512x512, .f32⟩
  | 62 => ⟨S16x512x512, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S16x512x512, .i32⟩
  | 70 => ⟨S16x512x512, .i32⟩
  | 71 => ⟨S_, .i32⟩
  | 72 => ⟨S16x512x512, .i32⟩
  | 73 => ⟨S16x512x512, .i1⟩
  | 74 => ⟨S_, .i32⟩
  | 75 => ⟨S16x512x512, .i32⟩
  | 76 => ⟨S16x512x512, .i1⟩
  | 77 => ⟨S_, .i32⟩
  | 78 => ⟨S_, .i1⟩
  | 79 => ⟨S16x512x512, .i1⟩
  | 80 => ⟨S16x512x512, .i1⟩
  | 81 => ⟨S16x512x512, .i1⟩
  | 82 => ⟨S16x512x512, .i32⟩
  | 83 => ⟨S16x512x512, .i32⟩
  | 84 => ⟨S16x512x512, .i32⟩
  | 85 => ⟨S16x512x512, .f32⟩
  | 86 => ⟨S16x512x512, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S16x512x512, .i32⟩
  | 94 => ⟨S16x512x512, .i32⟩
  | 95 => ⟨S_, .i32⟩
  | 96 => ⟨S16x512x512, .i32⟩
  | 97 => ⟨S16x512x512, .i1⟩
  | 98 => ⟨S_, .i32⟩
  | 99 => ⟨S16x512x512, .i32⟩
  | 100 => ⟨S16x512x512, .i1⟩
  | 101 => ⟨S_, .i32⟩
  | 102 => ⟨S_, .i1⟩
  | 103 => ⟨S16x512x512, .i1⟩
  | 104 => ⟨S16x512x512, .i1⟩
  | 105 => ⟨S16x512x512, .i1⟩
  | 106 => ⟨S16x512x512, .i32⟩
  | 107 => ⟨S16x512x512, .i32⟩
  | 108 => ⟨S16x512x512, .i32⟩
  | 109 => ⟨S_, .f32⟩
  | 110 => ⟨S16x10x512x512, .f32⟩
  | 111 => ⟨S16, .i32⟩
  | 112 => ⟨S16x1x1, .i32⟩
  | 113 => ⟨S512, .i32⟩
  | 114 => ⟨S1x512x1, .i32⟩
  | 115 => ⟨S512, .i32⟩
  | 116 => ⟨S1x1x512, .i32⟩
  | 117 => ⟨S_, .i32⟩
  | 118 => ⟨S16x1x1, .i32⟩
  | 119 => ⟨S16x1x1, .i1⟩
  | 120 => ⟨S_, .i32⟩
  | 121 => ⟨S16x1x1, .i32⟩
  | 122 => ⟨S16x1x1, .i32⟩
  | 123 => ⟨S16x1x1, .i32⟩
  | 124 => ⟨S_, .i32⟩
  | 125 => ⟨S16x512x512, .i32⟩
  | 126 => ⟨S16x512x512, .i1⟩
  | 127 => ⟨S_, .i32⟩
  | _ => ⟨S16x1x512x512, .f32⟩

abbrev hbmTy0_2 (i : Nat) : BufTy := match i % 128 with
  | 0 => ⟨S16x512x512, .i32⟩
  | 1 => ⟨S16x512x512, .i32⟩
  | 2 => ⟨S16x512x512, .i32⟩
  | 3 => ⟨S_, .i32⟩
  | 4 => ⟨S1x512x1, .i32⟩
  | 5 => ⟨S1x512x1, .i1⟩
  | 6 => ⟨S_, .i32⟩
  | 7 => ⟨S1x512x1, .i32⟩
  | 8 => ⟨S1x512x1, .i32⟩
  | 9 => ⟨S1x512x1, .i32⟩
  | 10 => ⟨S_, .i32⟩
  | 11 => ⟨S1x1x512, .i32⟩
  | 12 => ⟨S1x1x512, .i1⟩
  | 13 => ⟨S_, .i32⟩
  | 14 => ⟨S1x1x512, .i32⟩
  | 15 => ⟨S1x1x512, .i32⟩
  | 16 => ⟨S1x1x512, .i32⟩
  | 17 => ⟨S16x512x512, .i32⟩
  | 18 => ⟨S16x512x512, .i32⟩
  | 19 => ⟨S16x512x512, .i32⟩
  | 20 => ⟨S16x512x512x1, .i32⟩
  | 21 => ⟨S16x512x512x1, .i32⟩
  | 22 => ⟨S16x512x512x1, .i32⟩
  | 23 => ⟨S16x512x512x1, .i32⟩
  | 24 => ⟨S16x512x512x4, .i32⟩
  | 25 => ⟨S16x10x512x512, .f32⟩
  | 26 => ⟨S_, .i32⟩
  | 27 => ⟨S16x1x1, .i32⟩
  | 28 => ⟨S16x1x1, .i1⟩
  | 29 => ⟨S_, .i32⟩
  | 30 => ⟨S16x1x1, .i32⟩
  | 31 => ⟨S16x1x1, .i32⟩
  | 32 => ⟨S16x1x1, .i32⟩
  | 33 => ⟨S_, .i32⟩
  | 34 => ⟨S16x512x512, .i32⟩
  | 35 => ⟨S16x512x512, .i1⟩
  | 36 => ⟨S_, .i32⟩
  | 37 => ⟨S16x512x512, .i32⟩
  | 38 => ⟨S16x512x512, .i32⟩
  | 39 => ⟨S16x512x512, .i32⟩
  | 40 => ⟨S_, .i32⟩
  | 41 => ⟨S1x512x1, .i32⟩
  | 42 => ⟨S1x512x1, .i1⟩
  | 43 => ⟨S_, .i32⟩
  | 44 => ⟨S1x512x1, .i32⟩
  | 45 => ⟨S1x512x1, .i32⟩
  | 46 => ⟨S1x512x1, .i32⟩
  | 47 => ⟨S_, .i32⟩
  | 48 => ⟨S1x1x512, .i32⟩
  | 49 => ⟨S1x1x512, .i1⟩
  | 50 => ⟨S_, .i32⟩
  | 51 => ⟨S1x1x512, .i32⟩
  | 52 => ⟨S1x1x512, .i32⟩
  | 53 => ⟨S1x1x512, .i32⟩
  | 54 => ⟨S16x512x512, .i32⟩
  | 55 => ⟨S16x512x512, .i32⟩
  | 56 => ⟨S16x512x512, .i32⟩
  | 57 => ⟨S16x512x512x1, .i32⟩
  | 58 => ⟨S16x512x512x1, .i32⟩
  | 59 => ⟨S16x512x512x1, .i32⟩
  | 60 => ⟨S16x512x512x1, .i32⟩
  | 61 => ⟨S16x512x512x4, .i32⟩
  | 62 => ⟨S16x10x512x512, .f32⟩
  | 63 => ⟨S_, .f32⟩
  | 64 => ⟨S_, .f32⟩
  | 65 => ⟨S16x10x507x507, .f32⟩
  | 66 => ⟨S_, .f32⟩
  | 67 => ⟨S16x10x507x507, .f32⟩
  | 68 => ⟨S16x10x507x507, .f32⟩
  | _ => ⟨S16x1x512x512, .f32⟩

abbrev hbmTy (i : Nat) : BufTy := match i / 128 with
  | 0 => hbmTy0_0 i
  | 1 => hbmTy0_1 i
  | 2 => hbmTy0_2 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_cst_13 : Ref sig .tc := ⟨.hbm, 76, rfl⟩
abbrev main_call4_v0 : Ref sig .tc := ⟨.hbm, 77, rfl⟩
abbrev main_call4_v1 : Ref sig .tc := ⟨.hbm, 78, rfl⟩
abbrev main_v57 : Ref sig .tc := ⟨.hbm, 79, rfl⟩
abbrev main_cst_14 : Ref sig .tc := ⟨.hbm, 80, rfl⟩
abbrev main_call5_v0 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_17 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call6_v0 : Ref sig .tc := ⟨.hbm, 103, rfl⟩
abbrev main_v75 : Ref sig .tc := ⟨.hbm, 104, rfl⟩
abbrev main_cst_19 : Ref sig .tc := ⟨.hbm, 105, rfl⟩
abbrev main_v76 : Ref sig .tc := ⟨.hbm, 106, rfl⟩
abbrev main_v77 : Ref sig .tc := ⟨.hbm, 107, rfl⟩
abbrev main_cst_20 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_21 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_22 : Ref sig .tc := ⟨.hbm, 117, rfl⟩
abbrev main_v85 : Ref sig .tc := ⟨.hbm, 118, rfl⟩
abbrev main_v86 : Ref sig .tc := ⟨.hbm, 119, rfl⟩
abbrev main_cst_23 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_24 : Ref sig .tc := ⟨.hbm, 124, rfl⟩
abbrev main_call9_v0 : Ref sig .tc := ⟨.hbm, 125, rfl⟩
abbrev main_call9_v1 : Ref sig .tc := ⟨.hbm, 126, rfl⟩
abbrev main_call9_v2 : Ref sig .tc := ⟨.hbm, 127, rfl⟩
abbrev main_call9_cst : Ref sig .tc := ⟨.hbm, 128, rfl⟩
abbrev main_call9_v3 : Ref sig .tc := ⟨.hbm, 129, rfl⟩
abbrev main_call9_v4 : Ref sig .tc := ⟨.hbm, 130, rfl⟩
abbrev main_call9_cst_0 : Ref sig .tc := ⟨.hbm, 131, rfl⟩
abbrev main_call9_v5 : Ref sig .tc := ⟨.hbm, 132, rfl⟩
abbrev main_call9_v6 : Ref sig .tc := ⟨.hbm, 133, rfl⟩
abbrev main_call9_cst_1 : Ref sig .tc := ⟨.hbm, 134, rfl⟩
abbrev main_call9_v7 : Ref sig .tc := ⟨.hbm, 135, rfl⟩
abbrev main_call9_v8 : Ref sig .tc := ⟨.hbm, 136, rfl⟩
abbrev main_call9_v9 : Ref sig .tc := ⟨.hbm, 137, rfl⟩
abbrev main_call9_v10 : Ref sig .tc := ⟨.hbm, 138, rfl⟩
abbrev main_call9_v11 : Ref sig .tc := ⟨.hbm, 139, rfl⟩
abbrev main_call9_v12 : Ref sig .tc := ⟨.hbm, 140, rfl⟩
abbrev main_v90 : Ref sig .tc := ⟨.hbm, 141, rfl⟩
abbrev main_v91 : Ref sig .tc := ⟨.hbm, 142, rfl⟩
abbrev main_c_25 : Ref sig .tc := ⟨.hbm, 143, rfl⟩
abbrev main_call10_v0 : Ref sig .tc := ⟨.hbm, 144, rfl⟩
abbrev main_call10_v1 : Ref sig .tc := ⟨.hbm, 145, rfl⟩
abbrev main_call10_v2 : Ref sig .tc := ⟨.hbm, 146, rfl⟩
abbrev main_call10_cst : Ref sig .tc := ⟨.hbm, 147, rfl⟩
abbrev main_call10_v3 : Ref sig .tc := ⟨.hbm, 148, rfl⟩
abbrev main_call10_v4 : Ref sig .tc := ⟨.hbm, 149, rfl⟩
abbrev main_call10_cst_0 : Ref sig .tc := ⟨.hbm, 150, rfl⟩
abbrev main_call10_v5 : Ref sig .tc := ⟨.hbm, 151, rfl⟩
abbrev main_call10_v6 : Ref sig .tc := ⟨.hbm, 152, rfl⟩
abbrev main_call10_cst_1 : Ref sig .tc := ⟨.hbm, 153, rfl⟩
abbrev main_call10_v7 : Ref sig .tc := ⟨.hbm, 154, rfl⟩
abbrev main_call10_v8 : Ref sig .tc := ⟨.hbm, 155, rfl⟩
abbrev main_call10_v9 : Ref sig .tc := ⟨.hbm, 156, rfl⟩
abbrev main_call10_v10 : Ref sig .tc := ⟨.hbm, 157, rfl⟩
abbrev main_call10_v11 : Ref sig .tc := ⟨.hbm, 158, rfl⟩
abbrev main_call10_v12 : Ref sig .tc := ⟨.hbm, 159, rfl⟩
abbrev main_v92 : Ref sig .tc := ⟨.hbm, 160, rfl⟩
abbrev main_c_26 : Ref sig .tc := ⟨.hbm, 161, rfl⟩
abbrev main_call11_v0 : Ref sig .tc := ⟨.hbm, 162, rfl⟩
abbrev main_call11_v1 : Ref sig .tc := ⟨.hbm, 163, rfl⟩
abbrev main_call11_v2 : Ref sig .tc := ⟨.hbm, 164, rfl⟩
abbrev main_call11_cst : Ref sig .tc := ⟨.hbm, 165, rfl⟩
abbrev main_call11_v3 : Ref sig .tc := ⟨.hbm, 166, rfl⟩
abbrev main_call11_v4 : Ref sig .tc := ⟨.hbm, 167, rfl⟩
abbrev main_call11_cst_0 : Ref sig .tc := ⟨.hbm, 168, rfl⟩
abbrev main_call11_v5 : Ref sig .tc := ⟨.hbm, 169, rfl⟩
abbrev main_call11_v6 : Ref sig .tc := ⟨.hbm, 170, rfl⟩
abbrev main_call11_cst_1 : Ref sig .tc := ⟨.hbm, 171, rfl⟩
abbrev main_call11_v7 : Ref sig .tc := ⟨.hbm, 172, rfl⟩
abbrev main_call11_v8 : Ref sig .tc := ⟨.hbm, 173, rfl⟩
abbrev main_call11_v9 : Ref sig .tc := ⟨.hbm, 174, rfl⟩
abbrev main_call11_v10 : Ref sig .tc := ⟨.hbm, 175, rfl⟩
abbrev main_call11_v11 : Ref sig .tc := ⟨.hbm, 176, rfl⟩
abbrev main_call11_v12 : Ref sig .tc := ⟨.hbm, 177, rfl⟩
abbrev main_v93 : Ref sig .tc := ⟨.hbm, 178, rfl⟩
abbrev main_v94 : Ref sig .tc := ⟨.hbm, 179, rfl⟩
abbrev main_cst_27 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_cst_28 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_c_29 : Ref sig .tc := ⟨.hbm, 191, rfl⟩
abbrev main_call12_v0 : Ref sig .tc := ⟨.hbm, 192, rfl⟩
abbrev main_call12_c : Ref sig .tc := ⟨.hbm, 193, rfl⟩
abbrev main_call12_v1 : Ref sig .tc := ⟨.hbm, 194, rfl⟩
abbrev main_call12_c_0 : Ref sig .tc := ⟨.hbm, 195, rfl⟩
abbrev main_call12_v2 : Ref sig .tc := ⟨.hbm, 196, rfl⟩
abbrev main_call12_v3 : Ref sig .tc := ⟨.hbm, 197, rfl⟩
abbrev main_call12_v4 : Ref sig .tc := ⟨.hbm, 198, rfl⟩
abbrev main_call12_c_1 : Ref sig .tc := ⟨.hbm, 199, rfl⟩
abbrev main_call12_v5 : Ref sig .tc := ⟨.hbm, 200, rfl⟩
abbrev main_call12_v6 : Ref sig .tc := ⟨.hbm, 201, rfl⟩
abbrev main_call12_c_2 : Ref sig .tc := ⟨.hbm, 202, rfl⟩
abbrev main_call12_v7 : Ref sig .tc := ⟨.hbm, 203, rfl⟩
abbrev main_call12_v8 : Ref sig .tc := ⟨.hbm, 204, rfl⟩
abbrev main_call12_c_3 : Ref sig .tc := ⟨.hbm, 205, rfl⟩
abbrev main_call12_v9 : Ref sig .tc := ⟨.hbm, 206, rfl⟩
abbrev main_call12_v10 : Ref sig .tc := ⟨.hbm, 207, rfl⟩
abbrev main_call12_v11 : Ref sig .tc := ⟨.hbm, 208, rfl⟩
abbrev main_call12_v12 : Ref sig .tc := ⟨.hbm, 209, rfl⟩
abbrev main_call12_v13 : Ref sig .tc := ⟨.hbm, 210, rfl⟩
abbrev main_call12_v14 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_c_30 : Ref sig .tc := ⟨.hbm, 215, rfl⟩
abbrev main_call13_v0 : Ref sig .tc := ⟨.hbm, 216, rfl⟩
abbrev main_call13_c : Ref sig .tc := ⟨.hbm, 217, rfl⟩
abbrev main_call13_v1 : Ref sig .tc := ⟨.hbm, 218, rfl⟩
abbrev main_call13_c_0 : Ref sig .tc := ⟨.hbm, 219, rfl⟩
abbrev main_call13_v2 : Ref sig .tc := ⟨.hbm, 220, rfl⟩
abbrev main_call13_v3 : Ref sig .tc := ⟨.hbm, 221, rfl⟩
abbrev main_call13_v4 : Ref sig .tc := ⟨.hbm, 222, rfl⟩
abbrev main_call13_c_1 : Ref sig .tc := ⟨.hbm, 223, rfl⟩
abbrev main_call13_v5 : Ref sig .tc := ⟨.hbm, 224, rfl⟩
abbrev main_call13_v6 : Ref sig .tc := ⟨.hbm, 225, rfl⟩
abbrev main_call13_c_2 : Ref sig .tc := ⟨.hbm, 226, rfl⟩
abbrev main_call13_v7 : Ref sig .tc := ⟨.hbm, 227, rfl⟩
abbrev main_call13_v8 : Ref sig .tc := ⟨.hbm, 228, rfl⟩
abbrev main_call13_c_3 : Ref sig .tc := ⟨.hbm, 229, rfl⟩
abbrev main_call13_v9 : Ref sig .tc := ⟨.hbm, 230, rfl⟩
abbrev main_call13_v10 : Ref sig .tc := ⟨.hbm, 231, rfl⟩
abbrev main_call13_v11 : Ref sig .tc := ⟨.hbm, 232, rfl⟩
abbrev main_call13_v12 : Ref sig .tc := ⟨.hbm, 233, rfl⟩
abbrev main_call13_v13 : Ref sig .tc := ⟨.hbm, 234, rfl⟩
abbrev main_call13_v14 : Ref sig .tc := ⟨.hbm, 235, rfl⟩
abbrev main_v107 : Ref sig .tc := ⟨.hbm, 236, rfl⟩
abbrev main_cst_31 : Ref sig .tc := ⟨.hbm, 237, rfl⟩
abbrev main_v108 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_v113 : Ref sig .tc := ⟨.hbm, 243, rfl⟩
abbrev main_v114 : Ref sig .tc := ⟨.hbm, 244, rfl⟩
abbrev main_c_32 : Ref sig .tc := ⟨.hbm, 245, rfl⟩
abbrev main_v115 : Ref sig .tc := ⟨.hbm, 246, rfl⟩
abbrev main_v116 : Ref sig .tc := ⟨.hbm, 247, rfl⟩
abbrev main_c_33 : Ref sig .tc := ⟨.hbm, 248, rfl⟩
abbrev main_v117 : Ref sig .tc := ⟨.hbm, 249, rfl⟩
abbrev main_v118 : Ref sig .tc := ⟨.hbm, 250, rfl⟩
abbrev main_v119 : Ref sig .tc := ⟨.hbm, 251, rfl⟩
abbrev main_c_34 : Ref sig .tc := ⟨.hbm, 252, rfl⟩
abbrev main_v120 : Ref sig .tc := ⟨.hbm, 253, rfl⟩
abbrev main_v121 : Ref sig .tc := ⟨.hbm, 254, rfl⟩
abbrev main_c_35 : Ref sig .tc := ⟨.hbm, 255, rfl⟩
abbrev main_v122 : Ref sig .tc := ⟨.hbm, 256, rfl⟩
abbrev main_v123 : Ref sig .tc := ⟨.hbm, 257, rfl⟩
abbrev main_v124 : Ref sig .tc := ⟨.hbm, 258, rfl⟩
abbrev main_c_36 : Ref sig .tc := ⟨.hbm, 259, rfl⟩
abbrev main_v125 : Ref sig .tc := ⟨.hbm, 260, rfl⟩
abbrev main_v126 : Ref sig .tc := ⟨.hbm, 261, rfl⟩
abbrev main_c_37 : Ref sig .tc := ⟨.hbm, 262, rfl⟩
abbrev main_v127 : Ref sig .tc := ⟨.hbm, 263, rfl⟩
abbrev main_v128 : Ref sig .tc := ⟨.hbm, 264, rfl⟩
abbrev main_v129 : Ref sig .tc := ⟨.hbm, 265, rfl⟩
abbrev main_c_38 : Ref sig .tc := ⟨.hbm, 266, rfl⟩
abbrev main_v130 : Ref sig .tc := ⟨.hbm, 267, rfl⟩
abbrev main_v131 : Ref sig .tc := ⟨.hbm, 268, rfl⟩
abbrev main_c_39 : Ref sig .tc := ⟨.hbm, 269, rfl⟩
abbrev main_v132 : Ref sig .tc := ⟨.hbm, 270, rfl⟩
abbrev main_v133 : Ref sig .tc := ⟨.hbm, 271, rfl⟩
abbrev main_v134 : Ref sig .tc := ⟨.hbm, 272, rfl⟩
abbrev main_v135 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_c_40 : Ref sig .tc := ⟨.hbm, 282, rfl⟩
abbrev main_v144 : Ref sig .tc := ⟨.hbm, 283, rfl⟩
abbrev main_v145 : Ref sig .tc := ⟨.hbm, 284, rfl⟩
abbrev main_c_41 : Ref sig .tc := ⟨.hbm, 285, rfl⟩
abbrev main_v146 : Ref sig .tc := ⟨.hbm, 286, rfl⟩
abbrev main_v147 : Ref sig .tc := ⟨.hbm, 287, rfl⟩
abbrev main_v148 : Ref sig .tc := ⟨.hbm, 288, rfl⟩
abbrev main_c_42 : Ref sig .tc := ⟨.hbm, 289, rfl⟩
abbrev main_v149 : Ref sig .tc := ⟨.hbm, 290, rfl⟩
abbrev main_v150 : Ref sig .tc := ⟨.hbm, 291, rfl⟩
abbrev main_c_43 : Ref sig .tc := ⟨.hbm, 292, rfl⟩
abbrev main_v151 : Ref sig .tc := ⟨.hbm, 293, rfl⟩
abbrev main_v152 : Ref sig .tc := ⟨.hbm, 294, rfl⟩
abbrev main_v153 : Ref sig .tc := ⟨.hbm, 295, rfl⟩
abbrev main_c_44 : Ref sig .tc := ⟨.hbm, 296, rfl⟩
abbrev main_v154 : Ref sig .tc := ⟨.hbm, 297, rfl⟩
abbrev main_v155 : Ref sig .tc := ⟨.hbm, 298, rfl⟩
abbrev main_c_45 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_c_46 : Ref sig .tc := ⟨.hbm, 303, rfl⟩
abbrev main_v159 : Ref sig .tc := ⟨.hbm, 304, rfl⟩
abbrev main_v160 : Ref sig .tc := ⟨.hbm, 305, rfl⟩
abbrev main_c_47 : Ref sig .tc := ⟨.hbm, 306, rfl⟩
abbrev main_v161 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_v166 : Ref sig .tc := ⟨.hbm, 312, rfl⟩
abbrev main_v167 : Ref sig .tc := ⟨.hbm, 313, rfl⟩
abbrev main_v168 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩
abbrev main_v172 : Ref sig .tc := ⟨.hbm, 318, rfl⟩
abbrev main_cst_48 : Ref sig .tc := ⟨.hbm, 319, rfl⟩
abbrev main_v173 : Ref sig .tc := ⟨.hbm, 320, rfl⟩
abbrev main_v174 : Ref sig .tc := ⟨.hbm, 321, rfl⟩
abbrev main_cst_49 : Ref sig .tc := ⟨.hbm, 322, rfl⟩
abbrev main_v175 : Ref sig .tc := ⟨.hbm, 323, rfl⟩
abbrev main_v176 : Ref sig .tc := ⟨.hbm, 324, rfl⟩

abbrev nD : Nat := 1
abbrev τ : Topo := Topo.v7x

variable {F : FTy → Type} [FloatOps F]
-- ==== Proof.Angle.lean ====
/- The direction of one pixel's gradient. The kernel takes the angle of `(min, max)` and unfolds it; the reference takes
   the arctangent of `|y| / |x|` in three ranges. Both are read here over the extended reals, and shown to be the same
   real number between `-π` and `π` (`π` the single-precision one), whatever the two gradients are. -/
module

public import Idealize.ShloMosaic.Lib.Pointwise

@[expose] public section

noncomputable section

namespace Cert.Hog

open Idealize.ShloMosaic

/-- The single-precision π. -/
def piF : ℝ := 13176795 / 4194304

/-- The single-precision tangent of π/8, where the low range of the arctangent ends. -/
def cut : ℝ := 13898701 / 33554432

/-! ## The polynomial -/

/-- The arctangent's polynomial at a real. -/
def polyR (u : ℝ) : ℝ :=
  u + u * (u * u) * ((((10809553 / 134217728 : ℝ) * (u * u) - (9313157 / 67108864 : ℝ)) * (u * u)
    + (13406815 / 67108864 : ℝ)) * (u * u) - (5592341 / 16777216 : ℝ))

/-- The arctangent's polynomial at an extended real, as both programs compute it. -/
def poly (u : EReal) : EReal :=
  u + u * (u * u) * (((((10809553 / 134217728 : ℝ) : EReal) * (u * u) - ((9313157 / 67108864 : ℝ) : EReal)) * (u * u)
    + ((13406815 / 67108864 : ℝ) : EReal)) * (u * u) - ((5592341 / 16777216 : ℝ) : EReal))

/-- On the reals the two are one. -/
theorem poly_coe (u : ℝ) : poly (u : EReal) = ((polyR u : ℝ) : EReal) := by
  unfold poly polyR
  norm_cast

/-- The polynomial is odd. -/
theorem polyR_neg (u : ℝ) : polyR (-u) = -polyR u := by
  unfold polyR; ring

/-- Up to one half the polynomial is between zero and one half. -/
theorem polyR_bounds (u : ℝ) (h0 : 0 ≤ u) (h1 : u ≤ 1 / 2) : 0 ≤ polyR u ∧ polyR u ≤ 1 / 2 := by
  have hz0 : 0 ≤ u * u := mul_nonneg h0 h0
  have hz1 : u * u ≤ 1 / 4 := by nlinarith
  generalize hz : u * u = z at hz0 hz1
  have e : polyR u = u + u * (z * ((((10809553 / 134217728 : ℝ) * z - (9313157 / 67108864 : ℝ)) * z
    + (13406815 / 67108864 : ℝ)) * z - (5592341 / 16777216 : ℝ))) := by
    unfold polyR; rw [hz]; ring
  have a1 : (10809553 / 134217728 : ℝ) * z - (9313157 / 67108864 : ℝ) ≤ 0 := by nlinarith
  have a2 : -1 ≤ (10809553 / 134217728 : ℝ) * z - (9313157 / 67108864 : ℝ) := by nlinarith
  generalize (10809553 / 134217728 : ℝ) * z - (9313157 / 67108864 : ℝ) = q at e a1 a2
  have b1 : q * z + (13406815 / 67108864 : ℝ) ≤ 1 := by nlinarith
  have b2 : -1 ≤ q * z + (13406815 / 67108864 : ℝ) := by nlinarith
  generalize q * z + (13406815 / 67108864 : ℝ) = s at e b1 b2
  have c1 : s * z - (5592341 / 16777216 : ℝ) ≤ 0 := by nlinarith
  have c2 : -1 ≤ s * z - (5592341 / 16777216 : ℝ) := by nlinarith
  generalize s * z - (5592341 / 16777216 : ℝ) = w at e c1 c2
  have d1 : z * w ≤ 0 := mul_nonpos_of_nonneg_of_nonpos hz0 c1
  have d2 : -1 ≤ z * w := by nlinarith
  generalize z * w = v at e d1 d2
  rw [e]
  constructor <;> nlinarith

/-! ## Division of reals -/

/-- Division of reals with a nonzero divisor is division of reals. -/
theorem div_coe (x y : ℝ) (hy : y ≠ 0) : Ideal.div (x : EReal) (y : EReal) = ((x / y : ℝ) : EReal) := by
  unfold Ideal.div
  rw [if_neg (by exact_mod_cast hy), div_eq_mul_inv]
  norm_cast

/-- A real over an infinity is zero. -/
theorem div_top (x : EReal) : Ideal.div x ⊤ = 0 := by
  unfold Ideal.div
  rw [if_neg (by simp)]
  simp

/-- Infinity over a positive real is infinity. -/
theorem top_div (y : ℝ) (hy : 0 < y) : Ideal.div ⊤ (y : EReal) = ⊤ := by
  unfold Ideal.div
  rw [if_neg (by exact_mod_cast hy.ne'), ← EReal.coe_inv, EReal.top_mul_coe_of_pos (by positivity)]

/-! ## The first quadrant -/

/-- The kernel's angle of the ratio `q` of the smaller side to the larger. -/
def kerEighth (q : EReal) : EReal :=
  poly (if (cut : EReal) < q then Ideal.div (q - 1) (q + 1) else q)
    + (if (cut : EReal) < q then ((piF / 4 : ℝ) : EReal) else 0)

/-- The kernel's ratio of the smaller side to the larger. -/
def kerRatio (ax ay : EReal) : EReal :=
  Ideal.div (min ax ay) (if max ax ay = 0 then 1 else max ax ay)

/-- The kernel's angle in the first quadrant. -/
def kerQuarter (ax ay : EReal) : EReal :=
  if ax < ay then ((piF / 2 : ℝ) : EReal) - kerEighth (kerRatio ax ay) else kerEighth (kerRatio ax ay)

/-- The reference's argument of the polynomial. -/
def refArg (t : EReal) : EReal :=
  if t ≤ (cut : EReal) then t
  else if 1 ≤ t * (cut : EReal) then Ideal.div ((-1 : ℝ) : EReal) t else Ideal.div (t - 1) (t + 1)

/-- The reference's arctangent of `t ≥ 0`. -/
def refArctan (t : EReal) : EReal :=
  (if t ≤ (cut : EReal) then 0
    else if 1 ≤ t * (cut : EReal) then ((piF / 2 : ℝ) : EReal) else ((piF / 4 : ℝ) : EReal)) + poly (refArg t)

/-- The reference's angle in the first quadrant. -/
def refQuarter (ax ay : EReal) : EReal :=
  if ax = 0 then (if ay = 0 then 0 else ((piF / 2 : ℝ) : EReal)) else refArctan (Ideal.div ay ax)

/-- At a ratio in the low range the kernel's angle is the polynomial. -/
theorem kerEighth_low (q : ℝ) (h : q ≤ cut) : kerEighth (q : EReal) = ((polyR q : ℝ) : EReal) := by
  have hc : ¬ (cut : EReal) < (q : EReal) := not_lt.mpr (by exact_mod_cast h)
  unfold kerEighth
  rw [if_neg hc, if_neg hc, poly_coe, add_zero]

/-- At a ratio in the high range the kernel's angle is the polynomial of the turned ratio, plus an eighth turn. -/
theorem kerEighth_high (q : ℝ) (h : cut < q) :
    kerEighth (q : EReal) = ((polyR ((q - 1) / (q + 1)) + piF / 4 : ℝ) : EReal) := by
  have hc : (cut : EReal) < (q : EReal) := by exact_mod_cast h
  have h0 : (0 : ℝ) < cut := by unfold cut; norm_num
  unfold kerEighth
  rw [if_pos hc, if_pos hc, show ((q : EReal) - 1) = ((q - 1 : ℝ) : EReal) by norm_cast,
    show ((q : EReal) + 1) = ((q + 1 : ℝ) : EReal) by norm_cast, div_coe _ _ (by linarith), poly_coe]
  norm_cast

/-- The reference's arctangent in its low range. -/
theorem refArctan_low (t : ℝ) (h : t ≤ cut) : refArctan (t : EReal) = ((polyR t : ℝ) : EReal) := by
  have hc : (t : EReal) ≤ (cut : EReal) := by exact_mod_cast h
  unfold refArctan refArg
  rw [if_pos hc, if_pos hc, poly_coe, zero_add]

/-- The reference's arctangent in its middle range. -/
theorem refArctan_mid (t : ℝ) (h : cut < t) (h' : t * cut < 1) :
    refArctan (t : EReal) = ((piF / 4 + polyR ((t - 1) / (t + 1)) : ℝ) : EReal) := by
  have hc : ¬ (t : EReal) ≤ (cut : EReal) := not_le.mpr (by exact_mod_cast h)
  have hd : ¬ (1 : EReal) ≤ (t : EReal) * (cut : EReal) := not_le.mpr (by exact_mod_cast h')
  have h0 : (0 : ℝ) < cut := by unfold cut; norm_num
  unfold refArctan refArg
  rw [if_neg hc, if_neg hd, if_neg hc, if_neg hd, show ((t : EReal) - 1) = ((t - 1 : ℝ) : EReal) by norm_cast,
    show ((t : EReal) + 1) = ((t + 1 : ℝ) : EReal) by norm_cast, div_coe _ _ (by linarith), poly_coe]
  norm_cast

/-- The reference's arctangent in its high range. -/
theorem refArctan_high (t : ℝ) (h : cut < t) (h' : 1 ≤ t * cut) :
    refArctan (t : EReal) = ((piF / 2 + polyR (-1 / t) : ℝ) : EReal) := by
  have hc : ¬ (t : EReal) ≤ (cut : EReal) := not_le.mpr (by exact_mod_cast h)
  have hd : (1 : EReal) ≤ (t : EReal) * (cut : EReal) := by exact_mod_cast h'
  have h0 : (0 : ℝ) < cut := by unfold cut; norm_num
  unfold refArctan refArg
  rw [if_neg hc, if_pos hd, if_neg hc, if_pos hd, div_coe _ _ (by linarith), poly_coe]
  norm_cast

/-- The kernel's angle of a ratio between zero and one is between zero and a quarter turn. -/
theorem kerEighth_bounds (q : ℝ) (h0 : 0 ≤ q) (h1 : q ≤ 1) :
    ∃ a : ℝ, kerEighth (q : EReal) = (a : EReal) ∧ 0 ≤ a ∧ a ≤ piF / 2 := by
  have hp : 3 < piF ∧ piF < 4 := by unfold piF; norm_num
  rcases le_or_gt q cut with h | h
  · have hb := polyR_bounds q h0 (h.trans (by unfold cut; norm_num))
    exact ⟨_, kerEighth_low q h, hb.1, by linarith⟩
  · have h2 : (2 / 5 : ℝ) < q := lt_trans (by unfold cut; norm_num) h
    have e : (q - 1) / (q + 1) = -((1 - q) / (q + 1)) := by rw [← neg_div, neg_sub]
    have hb := polyR_bounds ((1 - q) / (q + 1)) (div_nonneg (by linarith) (by linarith))
      (by rw [div_le_iff₀ (by linarith)]; linarith)
    refine ⟨_, kerEighth_high q h, ?_, ?_⟩ <;> rw [e, polyR_neg] <;> linarith [hb.1, hb.2]

/-- In the first quadrant the two angles are the same real number between zero and a quarter turn. -/
theorem quarter (ax ay : EReal) (hx : 0 ≤ ax) (hy : 0 ≤ ay) :
    ∃ a : ℝ, 0 ≤ a ∧ a ≤ piF / 2 ∧ kerQuarter ax ay = (a : EReal) ∧ refQuarter ax ay = (a : EReal) := by
  have hp : 3 < piF ∧ piF < 4 := by unfold piF; norm_num
  have hc : 2 / 5 < cut ∧ cut < 1 / 2 := by unfold cut; norm_num
  have h00 : kerEighth 0 = ((0 : ℝ) : EReal) := by
    have := kerEighth_low 0 (by linarith)
    rw [EReal.coe_zero] at this
    rw [this]; unfold polyR; norm_num
  have r00 : refArctan 0 = ((0 : ℝ) : EReal) := by
    have := refArctan_low 0 (by linarith)
    rw [EReal.coe_zero] at this
    rw [this]; unfold polyR; norm_num
  induction ax with
  | bot => simp at hx
  | top =>
    have hr : kerRatio ⊤ ay = 0 := by
      unfold kerRatio
      rw [max_eq_left le_top, if_neg (by simp), div_top]
    refine ⟨0, le_rfl, by linarith, ?_, ?_⟩
    · unfold kerQuarter
      rw [if_neg (by simp), hr, h00]
    · unfold refQuarter
      rw [if_neg (by simp), div_top, r00]
  | coe x =>
  have hx' : 0 ≤ x := by exact_mod_cast hx
  induction ay with
  | bot => simp at hy
  | top =>
    have hr : kerRatio (x : EReal) ⊤ = 0 := by
      unfold kerRatio
      rw [max_eq_right le_top, if_neg (by simp), div_top]
    refine ⟨piF / 2, by linarith, le_rfl, ?_, ?_⟩
    · unfold kerQuarter
      rw [if_pos (EReal.coe_lt_top x), hr, h00]
      norm_cast; ring_nf
    · unfold refQuarter
      rcases hx'.eq_or_lt with h | h
      · rw [if_pos (by rw [← h]; rfl), if_neg (by simp)]
      · have e1 : ¬ (⊤ : EReal) ≤ (cut : EReal) := not_le.mpr (EReal.coe_lt_top _)
        have e2 : (1 : EReal) ≤ ⊤ * (cut : EReal) := by
          rw [EReal.top_mul_coe_of_pos (by linarith)]; exact le_top
        rw [if_neg (by exact_mod_cast h.ne'), top_div x h]
        unfold refArctan refArg
        rw [if_neg e1, if_pos e2, if_neg e1, if_pos e2, div_top]
        have := poly_coe 0
        rw [EReal.coe_zero] at this
        rw [this]; unfold polyR; norm_num
  | coe y =>
  have hy' : 0 ≤ y := by exact_mod_cast hy
  rcases hx'.eq_or_lt with h | h
  · -- the vertical axis
    subst h
    rcases hy'.eq_or_lt with h' | h'
    · subst h'
      have hr : kerRatio ((0 : ℝ) : EReal) ((0 : ℝ) : EReal) = 0 := by
        unfold kerRatio
        rw [max_self, min_self, if_pos (by norm_cast), EReal.coe_zero, ← EReal.coe_one, ← EReal.coe_zero,
          div_coe _ _ one_ne_zero]
        norm_num
      refine ⟨0, le_rfl, by linarith, ?_, ?_⟩
      · unfold kerQuarter
        rw [if_neg (lt_irrefl _), hr, h00]
      · unfold refQuarter
        rw [if_pos (by norm_cast), if_pos (by norm_cast)]; norm_cast
    · have hlt : ((0 : ℝ) : EReal) < (y : EReal) := by exact_mod_cast h'
      have hr : kerRatio ((0 : ℝ) : EReal) (y : EReal) = 0 := by
        unfold kerRatio
        rw [max_eq_right hlt.le, min_eq_left hlt.le, if_neg (by exact_mod_cast h'.ne'), div_coe _ _ h'.ne']
        norm_num
      refine ⟨piF / 2, by linarith, le_rfl, ?_, ?_⟩
      · unfold kerQuarter
        rw [if_pos hlt, hr, h00]
        norm_cast; ring_nf
      · unfold refQuarter
        rw [if_pos (by norm_cast), if_neg (by exact_mod_cast h'.ne')]
  · -- off the vertical axis
    have hrf : refQuarter (x : EReal) (y : EReal) = refArctan ((y / x : ℝ) : EReal) := by
      unfold refQuarter
      rw [if_neg (by exact_mod_cast h.ne'), div_coe _ _ h.ne']
    rcases le_or_gt y x with hyx | hxy
    · have hr : kerRatio (x : EReal) (y : EReal) = ((y / x : ℝ) : EReal) := by
        unfold kerRatio
        rw [max_eq_left (by exact_mod_cast hyx), min_eq_right (by exact_mod_cast hyx), if_neg (by exact_mod_cast h.ne'),
          div_coe _ _ h.ne']
      have hk : kerQuarter (x : EReal) (y : EReal) = kerEighth ((y / x : ℝ) : EReal) := by
        unfold kerQuarter
        rw [if_neg (not_lt.mpr (by exact_mod_cast hyx)), hr]
      have t0 : 0 ≤ y / x := div_nonneg hy' hx'
      have t1 : y / x ≤ 1 := (div_le_one h).mpr hyx
      rw [hk, hrf]
      generalize y / x = t at t0 t1
      obtain ⟨a, ha, ha0, ha1⟩ := kerEighth_bounds t t0 t1
      refine ⟨a, ha0, ha1, ha, ?_⟩
      rw [← ha]
      rcases le_or_gt t cut with ht | ht
      · rw [refArctan_low t ht, kerEighth_low t ht]
      · rw [refArctan_mid t ht (by nlinarith), kerEighth_high t ht, add_comm]
    · have hy0 : 0 < y := h.trans hxy
      have hr : kerRatio (x : EReal) (y : EReal) = ((x / y : ℝ) : EReal) := by
        unfold kerRatio
        rw [max_eq_right (by exact_mod_cast hxy.le), min_eq_left (by exact_mod_cast hxy.le),
          if_neg (by exact_mod_cast hy0.ne'), div_coe _ _ hy0.ne']
      have hk : kerQuarter (x : EReal) (y : EReal) = ((piF / 2 : ℝ) : EReal) - kerEighth ((x / y : ℝ) : EReal) := by
        unfold kerQuarter
        rw [if_pos (by exact_mod_cast hxy), hr]
      have q0 : 0 < x / y := div_pos h hy0
      have q1 : x / y < 1 := (div_lt_one hy0).mpr hxy
      have et : y / x = 1 / (x / y) := by rw [one_div_div]
      rw [hk, hrf, et]
      generalize x / y = q at q0 q1
      obtain ⟨a, ha, ha0, ha1⟩ := kerEighth_bounds q q0.le q1.le
      refine ⟨piF / 2 - a, by linarith, by linarith, by rw [ha]; norm_cast, ?_⟩
      have t1 : 1 < 1 / q := by rw [lt_div_iff₀ q0]; linarith
      rcases le_or_gt q cut with hq | hq
      · rw [kerEighth_low q hq] at ha
        have hap : polyR q = a := by exact_mod_cast ha
        rw [refArctan_high (1 / q) (by linarith) (by rw [one_div_mul_eq_div, le_div_iff₀ q0]; linarith),
          show -1 / (1 / q) = -q by field_simp, polyR_neg, hap]
        norm_cast
      · rw [kerEighth_high q hq] at ha
        have hap : polyR ((q - 1) / (q + 1)) + piF / 4 = a := by exact_mod_cast ha
        have e : (1 / q - 1) / (1 / q + 1) = -((q - 1) / (q + 1)) := by
          have : q + 1 ≠ 0 := by linarith
          field_simp; ring
        rw [refArctan_mid (1 / q) (by linarith) (by rw [one_div_mul_eq_div, div_lt_iff₀ q0]; linarith), e, polyR_neg, ← hap]
        norm_cast; ring_nf

/-! ## All four quadrants -/

/-- The kernel's angle of the gradient `(gx, gy)`. -/
def kerAngle (gx gy : EReal) : EReal :=
  if gx < 0 then 0 - (if gy < 0 then (piF : EReal) - kerQuarter (max gy (-gy)) (max gx (-gx))
      else kerQuarter (max gy (-gy)) (max gx (-gx)))
  else (if gy < 0 then (piF : EReal) - kerQuarter (max gy (-gy)) (max gx (-gx))
      else kerQuarter (max gy (-gy)) (max gx (-gx)))

/-- The reference's angle of the gradient `(gx, gy)`. -/
def refAngle (gx gy : EReal) : EReal :=
  if gx < 0 then -(if gy < 0 then (piF : EReal) - refQuarter (max gy (-gy)) (max gx (-gx))
      else refQuarter (max gy (-gy)) (max gx (-gx)))
  else (if gy < 0 then (piF : EReal) - refQuarter (max gy (-gy)) (max gx (-gx))
      else refQuarter (max gy (-gy)) (max gx (-gx)))

/-- An absolute value is not negative. -/
theorem abs_nonneg' (x : EReal) : 0 ≤ max x (-x) := by
  rcases le_total 0 x with h | h
  · exact le_max_of_le_left h
  · exact le_max_of_le_right (by simpa using h)

/-- The two angles are the same real number between `-π` and `π`. -/
theorem angle (gx gy : EReal) :
    ∃ a : ℝ, -piF ≤ a ∧ a ≤ piF ∧ kerAngle gx gy = (a : EReal) ∧ refAngle gx gy = (a : EReal) := by
  have hp : 3 < piF := by unfold piF; norm_num
  obtain ⟨q, q0, q1, hk, hr⟩ := quarter (max gy (-gy)) (max gx (-gx)) (abs_nonneg' gy) (abs_nonneg' gx)
  unfold kerAngle refAngle
  rw [hk, hr]
  by_cases h1 : gx < 0 <;> by_cases h2 : gy < 0 <;> simp only [h1, h2, if_true, if_false]
  · exact ⟨-(piF - q), by linarith, by linarith, by rw [zero_sub]; norm_cast, by norm_cast⟩
  · exact ⟨-q, by linarith, by linarith, by rw [zero_sub]; norm_cast, by norm_cast⟩
  · exact ⟨piF - q, by linarith, by linarith, by norm_cast, by norm_cast⟩
  · exact ⟨q, by linarith, by linarith, rfl, rfl⟩

end Cert.Hog

end
-- ==== Proof.Bins.lean ====
/- The two bins a pixel votes in. `p`, the angle in bins, is a real between -10 and 10. The kernel takes its floor, wraps
   it once, and steps to the next bin; the reference takes floor, ceiling and `p` itself modulo 10, in floats for the
   weights and in 32-bit words for the bins' numbers. Both come to the same two bins with the same two weights. -/
module

public import proofs.«01_k».proof.Proof.Angle

@[expose] public section

noncomputable section

namespace Cert.Hog

open Idealize.ShloMosaic

/-! ## The kernel's side -/

/-- A whole number of bins, wrapped once by the kernel. -/
def kerWrap (x : EReal) : EReal :=
  if ((10 : ℝ) : EReal) ≤ x then x - ((10 : ℝ) : EReal) else if x < 0 then x + ((10 : ℝ) : EReal) else x

/-- The kernel's lower bin. -/
def kerBin (p : EReal) : EReal := kerWrap (Ideal.liftRound Int.floor p)

/-- The kernel's distance above the lower bin. -/
def kerFrac (p : EReal) : EReal := p - Ideal.liftRound Int.floor p

/-- The kernel's upper bin. -/
def kerTop (p : EReal) : EReal :=
  if kerFrac p = 0 then kerBin p else if kerBin p = ((9 : ℝ) : EReal) then 0 else kerBin p + 1

/-- The kernel's weight in the lower bin. -/
def kerLow (p : EReal) : EReal := 1 - kerFrac p

/-- The kernel's weight in the upper bin. -/
def kerHigh (p : EReal) : EReal := 1 + kerFrac p - (kerTop p - kerBin p)

/-! ## The reference's side -/

/-- Ten as the reference makes it, a word turned into a float. -/
def tenF : EReal := FloatOps.sitofp (F := Ideal) .f32 10#32

/-- The reference's `x % 10` of floats: the truncated remainder, with the divisor added where the signs differ. -/
def refMod (x : EReal) : EReal :=
  Scalar.select
    (IntOp.andi
      (IntOp.cmpi .ne (BitVec.ofBool (decide (Ideal.remf x tenF < 0))) (BitVec.ofBool (decide (tenF < 0))))
      (BitVec.ofBool (decide (Ideal.remf x tenF ≠ 0))))
    (Ideal.remf x tenF + tenF) (Ideal.remf x tenF)

/-- The reference's `w % 10` of words, the same way. -/
def refIdx (w : BitVec 32) : BitVec 32 :=
  Scalar.select
    (IntOp.andi
      (IntOp.cmpi .ne
        (IntOp.cmpi .slt (IntOp.remsi .host w (Scalar.select (IntOp.cmpi .eq 10#32 0#32) 1#32 10#32)) 0#32)
        (IntOp.cmpi .slt (Scalar.select (IntOp.cmpi .eq 10#32 0#32) 1#32 10#32) 0#32))
      (IntOp.cmpi .ne (IntOp.remsi .host w (Scalar.select (IntOp.cmpi .eq 10#32 0#32) 1#32 10#32)) 0#32))
    (IntOp.addi (IntOp.remsi .host w (Scalar.select (IntOp.cmpi .eq 10#32 0#32) 1#32 10#32))
      (Scalar.select (IntOp.cmpi .eq 10#32 0#32) 1#32 10#32))
    (IntOp.remsi .host w (Scalar.select (IntOp.cmpi .eq 10#32 0#32) 1#32 10#32))

/-- The reference's weight in the lower bin. -/
def refLow (p : EReal) : EReal := 1 - (refMod p - refMod (Ideal.liftRound Int.floor p))

/-- The reference's weight in the upper bin. -/
def refHigh (p : EReal) : EReal := 1 - (refMod (Ideal.liftRound Int.ceil p) - refMod p)

/-- The number of the reference's lower bin. -/
def refBin (p : EReal) : BitVec 32 := refIdx (FloatOps.fptosi (F := Ideal) (φ := .f32) 32 (Ideal.liftRound Int.floor p))

/-- The number of the reference's upper bin. -/
def refTop (p : EReal) : BitVec 32 := refIdx (FloatOps.fptosi (F := Ideal) (φ := .f32) 32 (Ideal.liftRound Int.ceil p))

/-! ## Both wrap alike -/

/-- The bin of a whole number. -/
def wrapN (n : ℤ) : Fin 10 := ⟨(n % 10).toNat, by omega⟩

/-- A real between -10 and 10, wrapped into `[0, 10)`. -/
def wrapR (x : ℝ) : ℝ := if x = 10 then 0 else if x < 0 then (if x = -10 then 0 else x + 10) else x

/-- The whole number 10 as a float. -/
theorem tenF_eq : tenF = ((10 : ℝ) : EReal) := by
  change (((10#32).toInt : ℝ) : EReal) = _
  rw [show (10#32).toInt = 10 by decide]
  norm_cast

/-- The truncated remainder by ten of a real between -10 and 10. -/
theorem remf_ten (x : ℝ) (h0 : -10 ≤ x) (h1 : x ≤ 10) :
    Ideal.remf (x : EReal) tenF = ((if x = 10 ∨ x = -10 then 0 else x : ℝ) : EReal) := by
  rw [tenF_eq, Ideal.remf_coe, if_neg (by norm_num)]
  congr 1
  unfold Ideal.truncInt
  split_ifs with h2 h3 h3
  · rcases h3 with h | h
    · subst h; norm_num
    · subst h; norm_num at h2
  · rw [not_or] at h3
    have : ⌊x / 10⌋ = 0 := by
      rw [Int.floor_eq_zero_iff]; exact ⟨h2, by rw [div_lt_one (by norm_num)]; exact lt_of_le_of_ne h1 h3.1⟩
    rw [this]; norm_num
  · rcases h3 with h | h
    · subst h; norm_num at h2
    · subst h; norm_num
  · rw [not_or] at h3
    have : ⌈x / 10⌉ = 0 := by
      rw [Int.ceil_eq_zero_iff]
      constructor
      · have := lt_of_le_of_ne h0 (Ne.symm h3.2)
        linarith
      · linarith
    rw [this]; norm_num

/-- The printed choice between a remainder and the remainder plus the divisor. -/
theorem select_signs (a b d : Bool) (x y : EReal) :
    Scalar.select (IntOp.andi (IntOp.cmpi .ne (BitVec.ofBool a) (BitVec.ofBool b)) (BitVec.ofBool d)) x y
      = if a ≠ b ∧ d = true then x else y := by
  cases a <;> cases b <;> cases d <;> rfl

/-- The reference's modulus of a real between -10 and 10. -/
theorem refMod_coe (x : ℝ) (h0 : -10 ≤ x) (h1 : x ≤ 10) : refMod (x : EReal) = ((wrapR x : ℝ) : EReal) := by
  have ht : ¬ tenF < 0 := by rw [tenF_eq]; exact not_lt.mpr (by exact_mod_cast (by norm_num : (0 : ℝ) ≤ 10))
  unfold refMod wrapR
  rw [remf_ten x h0 h1, select_signs]
  by_cases a : x = 10
  · subst a; simp [ht]
  by_cases b : x = -10
  · subst b; norm_num [ht]
  rw [if_neg (show ¬ (x = 10 ∨ x = -10) by tauto), if_neg a, if_neg b]
  by_cases c : x < 0
  · have c' : (x : EReal) < 0 := by exact_mod_cast c
    rw [if_pos c, if_pos (by simp [ht, c', c'.ne]), tenF_eq]
    norm_cast
  · have c' : ¬ (x : EReal) < 0 := by exact_mod_cast c
    rw [if_neg c, if_neg (by simp [ht, c'])]

/-- The reference's modulus of a word between -10 and 10. -/
theorem refIdx_ofInt (n : ℤ) (h0 : -10 ≤ n) (h1 : n ≤ 10) :
    refIdx (BitVec.ofInt 32 n) = BitVec.ofNat 32 (wrapN n).val := by
  interval_cases n <;> decide

/-- The bin of a whole number between -10 and 10, by cases. -/
theorem wrapN_val (n : ℤ) (h0 : -10 ≤ n) (h1 : n ≤ 10) :
    ((wrapN n).val : ℝ) = ((if n = 10 then 0 else if n < 0 then (if n = -10 then 0 else n + 10) else n : ℤ) : ℝ) := by
  have : ((wrapN n).val : ℤ) = if n = 10 then 0 else if n < 0 then (if n = -10 then 0 else n + 10) else n := by
    unfold wrapN
    split_ifs <;> simp only <;> omega
  rw [← this]; norm_cast

/-- The kernel's wrap of a whole number between -10 and 10. -/
theorem kerWrap_int (n : ℤ) (h0 : -10 ≤ n) (h1 : n ≤ 10) :
    kerWrap (((n : ℝ)) : EReal) = (((wrapN n).val : ℝ) : EReal) := by
  have e : kerWrap (((n : ℝ)) : EReal) = ((if 10 ≤ n then (n : ℝ) - 10 else if n < 0 then (n : ℝ) + 10 else n : ℝ) : EReal) := by
    unfold kerWrap
    by_cases a : 10 ≤ n
    · rw [if_pos (by exact_mod_cast a), if_pos a]; norm_cast
    · rw [if_neg (by exact_mod_cast a), if_neg a]
      by_cases b : n < 0
      · rw [if_pos (by exact_mod_cast b), if_pos b]; norm_cast
      · rw [if_neg (by exact_mod_cast b), if_neg b]
  rw [e, wrapN_val n h0 h1]
  congr 1
  have e2 : (if n = 10 then 0 else if n < 0 then (if n = -10 then 0 else n + 10) else n)
      = if 10 ≤ n then n - 10 else if n < 0 then n + 10 else n := by split_ifs <;> omega
  rw [e2]; push_cast; rfl

/-- The wrap of a whole number between -10 and 10. -/
theorem wrapR_int (n : ℤ) (h0 : -10 ≤ n) (h1 : n ≤ 10) : wrapR (n : ℝ) = ((wrapN n).val : ℝ) := by
  rw [wrapN_val n h0 h1]
  unfold wrapR
  norm_cast

/-- The conversion to a word of a small whole number. -/
theorem fptosi_int (n : ℤ) (h0 : -10 ≤ n) (h1 : n ≤ 10) :
    FloatOps.fptosi (F := Ideal) (φ := .f32) 32 (((n : ℝ)) : EReal) = BitVec.ofInt 32 n := by
  change BitVec.ofInt 32 (Ideal.toIntClamped _ _ ((n : ℝ) : EReal)) = _
  congr 1
  change max _ (min _ (if 0 ≤ (n : ℝ) then ⌊(n : ℝ)⌋ else ⌈(n : ℝ)⌉)) = n
  rw [Int.floor_intCast, Int.ceil_intCast, ite_self]
  norm_num
  omega

/-- The two programs vote in the same two bins with the same two weights, which are not negative. -/
theorem bins (p : ℝ) (h0 : -10 ≤ p) (h1 : p ≤ 10) :
    ∃ kb kt : Fin 10, ∃ wb wt : ℝ, 0 ≤ wb ∧ 0 ≤ wt
      ∧ kerBin (p : EReal) = ((kb.val : ℝ) : EReal) ∧ kerTop (p : EReal) = ((kt.val : ℝ) : EReal)
      ∧ kerLow (p : EReal) = (wb : EReal) ∧ kerHigh (p : EReal) = (wt : EReal)
      ∧ refBin (p : EReal) = BitVec.ofNat 32 kb.val ∧ refTop (p : EReal) = BitVec.ofNat 32 kt.val
      ∧ refLow (p : EReal) = (wb : EReal) ∧ refHigh (p : EReal) = (wt : EReal) := by
  have n0 : -10 ≤ ⌊p⌋ := by rw [Int.le_floor]; exact_mod_cast h0
  have n1 : ⌊p⌋ ≤ 10 := by
    have := (Int.floor_le p).trans h1
    exact_mod_cast this
  have hf : (⌊p⌋ : ℝ) ≤ p := Int.floor_le p
  have hf' : p < ⌊p⌋ + 1 := Int.lt_floor_add_one p
  have c0 : -10 ≤ ⌈p⌉ := n0.trans (Int.floor_le_ceil p)
  have c1 : ⌈p⌉ ≤ 10 := by rw [Int.ceil_le]; exact_mod_cast h1
  have eb : kerBin (p : EReal) = (((wrapN ⌊p⌋).val : ℝ) : EReal) := by
    unfold kerBin; rw [Ideal.liftRound_coe, kerWrap_int _ n0 n1]
  have ef : kerFrac (p : EReal) = ((p - ⌊p⌋ : ℝ) : EReal) := by
    unfold kerFrac; rw [Ideal.liftRound_coe]; norm_cast
  have em : refMod (p : EReal) = (((wrapN ⌊p⌋).val + (p - ⌊p⌋) : ℝ) : EReal) := by
    rw [refMod_coe p h0 h1, ← wrapR_int _ n0 n1]
    congr 1
    unfold wrapR
    by_cases a : p = 10
    · subst a; norm_num
    · have a' : (⌊p⌋ : ℝ) ≠ 10 := fun h => a (le_antisymm h1 (by rw [← h]; exact hf))
      rw [if_neg a, if_neg a']
      by_cases b : p < 0
      · have b1 : ⌊p⌋ < 0 := Int.floor_lt.mpr (by exact_mod_cast b)
        have b' : (⌊p⌋ : ℝ) < 0 := by exact_mod_cast b1
        rw [if_pos b, if_pos b']
        by_cases d : (⌊p⌋ : ℝ) = -10
        · rw [if_pos d, d]
          split_ifs with e
          · rw [e]; norm_num
          · ring
        · have d' : p ≠ -10 := fun h => d (by rw [h]; norm_num)
          rw [if_neg d, if_neg d']; ring
      · have b1 : 0 ≤ ⌊p⌋ := Int.floor_nonneg.mpr (not_lt.mp b)
        have b' : ¬ (⌊p⌋ : ℝ) < 0 := not_lt.mpr (by exact_mod_cast b1)
        rw [if_neg b, if_neg b']; ring
  have emf : refMod (Ideal.liftRound Int.floor (p : EReal)) = (((wrapN ⌊p⌋).val : ℝ) : EReal) := by
    rw [Ideal.liftRound_coe, refMod_coe _ (by exact_mod_cast n0) (by exact_mod_cast n1), wrapR_int _ n0 n1]
  have emc : refMod (Ideal.liftRound Int.ceil (p : EReal)) = (((wrapN ⌈p⌉).val : ℝ) : EReal) := by
    rw [Ideal.liftRound_coe, refMod_coe _ (by exact_mod_cast c0) (by exact_mod_cast c1), wrapR_int _ c0 c1]
  have et : kerTop (p : EReal) = (((wrapN ⌈p⌉).val : ℝ) : EReal) := by
    unfold kerTop
    rw [ef, eb]
    by_cases a : p - ⌊p⌋ = 0
    · have hp : p = ⌊p⌋ := by linarith
      have : ⌈p⌉ = ⌊p⌋ := by
        conv_lhs => rw [hp]
        exact Int.ceil_intCast _
      rw [if_pos (by rw [a]; rfl), this]
    · have hp : (⌊p⌋ : ℝ) < p := lt_of_le_of_ne hf (fun h => a (by linarith))
      have hc : ⌈p⌉ = ⌊p⌋ + 1 := by
        rw [Int.ceil_eq_iff]; push_cast; exact ⟨by linarith, hf'.le⟩
      rw [if_neg (by exact_mod_cast a), hc]
      rw [hc] at c1
      generalize ⌊p⌋ = n at n0 c1
      by_cases b : (wrapN n).val = 9
      · have : (wrapN (n + 1)).val = 0 := by unfold wrapN at b ⊢; simp only at b ⊢; omega
        rw [if_pos (by rw [b]; norm_cast), this]; norm_cast
      · have : (wrapN (n + 1)).val = (wrapN n).val + 1 := by unfold wrapN at b ⊢; simp only at b ⊢; omega
        rw [if_neg (by exact_mod_cast b), this]; push_cast; rfl
  refine ⟨wrapN ⌊p⌋, wrapN ⌈p⌉, 1 - (p - ⌊p⌋), 1 + (p - ⌊p⌋) - ((wrapN ⌈p⌉).val - (wrapN ⌊p⌋).val), by linarith, ?_,
    eb, et, ?_, ?_, ?_, ?_, ?_, ?_⟩
  · by_cases a : p - ⌊p⌋ = 0
    · have hp : p = ⌊p⌋ := by linarith
      have : ⌈p⌉ = ⌊p⌋ := by
        conv_lhs => rw [hp]
        exact Int.ceil_intCast _
      rw [this, a]; norm_num
    · have hp : (⌊p⌋ : ℝ) < p := lt_of_le_of_ne hf (fun h => a (by linarith))
      have hc : ⌈p⌉ = ⌊p⌋ + 1 := by
        rw [Int.ceil_eq_iff]; push_cast; exact ⟨by linarith, hf'.le⟩
      have : (wrapN ⌈p⌉).val ≤ (wrapN ⌊p⌋).val + 1 := by rw [hc]; unfold wrapN; simp only; omega
      have : ((wrapN ⌈p⌉).val : ℝ) ≤ (wrapN ⌊p⌋).val + 1 := by exact_mod_cast this
      linarith
  · unfold kerLow; rw [ef]; norm_cast
  · unfold kerHigh; rw [ef, et, eb]; norm_cast
  · unfold refBin; rw [Ideal.liftRound_coe, fptosi_int _ n0 n1, refIdx_ofInt _ n0 n1]
  · unfold refTop; rw [Ideal.liftRound_coe, fptosi_int _ c0 c1, refIdx_ofInt _ c0 c1]
  · unfold refLow; rw [em, emf, show (1 : ℝ) - (p - ⌊p⌋) = 1 - (((wrapN ⌊p⌋).val + (p - ⌊p⌋) : ℝ) - (wrapN ⌊p⌋).val) by ring]
    norm_cast
  · unfold refHigh; rw [em, emc]
    rw [show 1 + (p - ⌊p⌋) - (((wrapN ⌈p⌉).val : ℝ) - (wrapN ⌊p⌋).val) = 1 - ((wrapN ⌈p⌉).val - ((wrapN ⌊p⌋).val + (p - ⌊p⌋))) by ring]
    norm_cast

end Cert.Hog

end
-- ==== Proof.Pixel.lean ====
/- One pixel's two votes. The kernel scales the magnitude by 1/64 before it weighs it, the reference divides by 64 at the
   end; but for that factor the two programs' votes of one gradient are the same, in every bin, and not negative. Here are
   also the values of the constants that both programs carry. -/
module

public import proofs.«01_k».proof.Proof.Bins

@[expose] public section

noncomputable section

namespace Cert.Hog

open Idealize.ShloMosaic

/-! ## The constants -/

/-- The word for the tangent of π/8. -/
theorem bits_cut : Ideal.ofBits .f32 1054086093#32 = (cut : EReal) := by
  unfold cut; simp [Ideal.ofBits, Ideal.ieee, -EReal.coe_mul, -EReal.coe_neg]; norm_num
/-- The word for the polynomial's leading coefficient. -/
theorem bits_c3 : Ideal.ofBits .f32 1034219729#32 = ((10809553 / 134217728 : ℝ) : EReal) := by
  simp [Ideal.ofBits, Ideal.ieee, -EReal.coe_mul, -EReal.coe_neg]; norm_num
/-- The word for the polynomial's second coefficient. -/
theorem bits_c2 : Ideal.ofBits .f32 1041111941#32 = ((9313157 / 67108864 : ℝ) : EReal) := by
  simp [Ideal.ofBits, Ideal.ieee, -EReal.coe_mul, -EReal.coe_neg]; norm_num
/-- The word for the polynomial's third coefficient. -/
theorem bits_c1 : Ideal.ofBits .f32 1045205599#32 = ((13406815 / 67108864 : ℝ) : EReal) := by
  simp [Ideal.ofBits, Ideal.ieee, -EReal.coe_mul, -EReal.coe_neg]; norm_num
/-- The word for the polynomial's last coefficient. -/
theorem bits_c0 : Ideal.ofBits .f32 1051372074#32 = ((5592341 / 16777216 : ℝ) : EReal) := by
  simp [Ideal.ofBits, Ideal.ieee, -EReal.coe_mul, -EReal.coe_neg]; norm_num
/-- The word for π. -/
theorem bits_pi : Ideal.ofBits .f32 1078530011#32 = (piF : EReal) := by
  unfold piF; simp [Ideal.ofBits, Ideal.ieee, -EReal.coe_mul, -EReal.coe_neg]; norm_num
/-- The word for π/2. -/
theorem bits_pi2 : Ideal.ofBits .f32 1070141403#32 = ((piF / 2 : ℝ) : EReal) := by
  unfold piF; simp [Ideal.ofBits, Ideal.ieee, -EReal.coe_mul, -EReal.coe_neg]; norm_num
/-- The word for π/4. -/
theorem bits_pi4 : Ideal.ofBits .f32 1061752795#32 = ((piF / 4 : ℝ) : EReal) := by
  unfold piF; simp [Ideal.ofBits, Ideal.ieee, -EReal.coe_mul, -EReal.coe_neg]; norm_num
/-- The word for 1/64. -/
theorem bits_64th : Ideal.ofBits .f32 1015021568#32 = ((1 / 64 : ℝ) : EReal) := by
  simp [Ideal.ofBits, Ideal.ieee, -EReal.coe_mul, -EReal.coe_neg]; norm_num
/-- The word for 64. -/
theorem bits_64 : Ideal.ofBits .f32 1115684864#32 = ((64 : ℝ) : EReal) := by
  simp [Ideal.ofBits, Ideal.ieee, -EReal.coe_mul, -EReal.coe_neg]; norm_num
/-- The word for 10. -/
theorem bits_10 : Ideal.ofBits .f32 1092616192#32 = ((10 : ℝ) : EReal) := by
  simp [Ideal.ofBits, Ideal.ieee, -EReal.coe_mul, -EReal.coe_neg]; norm_num
/-- The word for 9. -/
theorem bits_9 : Ideal.ofBits .f32 1091567616#32 = ((9 : ℝ) : EReal) := by
  simp [Ideal.ofBits, Ideal.ieee, -EReal.coe_mul, -EReal.coe_neg]; norm_num
/-- The word for 2. -/
theorem bits_2 : Ideal.ofBits .f32 1073741824#32 = ((2 : ℝ) : EReal) := by
  simp [Ideal.ofBits, Ideal.ieee, -EReal.coe_mul, -EReal.coe_neg]; norm_num
/-- The word for -1. -/
theorem bits_neg1 : Ideal.ofBits .f32 3212836864#32 = ((-1 : ℝ) : EReal) := by
  simp [Ideal.ofBits, Ideal.ieee, -EReal.coe_mul, -EReal.coe_neg]; norm_num
/-- The half-width word for 2. -/
theorem half_2 : Ideal.ofBits .bf16 16384#16 = ((2 : ℝ) : EReal) := by
  simp [Ideal.ofBits, Ideal.ieee, -EReal.coe_mul, -EReal.coe_neg]; norm_num

/-- The kernel's bin number `k` in half precision. -/
def binBits : Fin 10 → BitVec 16 :=
  ![0x0000#16, 0x3F80#16, 0x4000#16, 0x4040#16, 0x4080#16, 0x40A0#16, 0x40C0#16, 0x40E0#16, 0x4100#16, 0x4110#16]

/-- It is `k`. -/
theorem binBits_eq (k : Fin 10) : Ideal.ofBits .bf16 (binBits k) = ((k.val : ℝ) : EReal) := by
  fin_cases k <;> simp [binBits, Ideal.ofBits, Ideal.ieee, -EReal.coe_mul, -EReal.coe_neg] <;> norm_num

/-! ## The magnitude -/

/-- A gradient's magnitude. -/
def mag (gx gy : EReal) : EReal := Ideal.sqrt (gx * gx + gy * gy)

/-- A square is not negative. -/
theorem sq_nonneg' (x : EReal) : 0 ≤ x * x := by
  induction x with
  | bot => simp
  | top => simp
  | coe r => exact_mod_cast mul_self_nonneg r

/-- A magnitude is not negative. -/
theorem mag_nonneg (gx gy : EReal) : 0 ≤ mag gx gy := by
  have h := add_nonneg (sq_nonneg' gx) (sq_nonneg' gy)
  unfold mag
  generalize gx * gx + gy * gy = x at h
  induction x with
  | bot => simp at h
  | top => exact le_top
  | coe r =>
    have hr : 0 ≤ r := by exact_mod_cast h
    rw [Ideal.sqrt_coe, if_neg (not_lt.mpr hr)]
    exact_mod_cast Real.sqrt_nonneg r

/-! ## The votes -/

/-- The kernel's angle in bins. -/
def kerPos (gx gy : EReal) : EReal := kerAngle gx gy * ((8388608 / 2635359 : ℝ) : EReal)

/-- The reference's angle in bins. -/
def refPos (gx gy : EReal) : EReal := Ideal.div (refAngle gx gy) (piF : EReal) * ((10 : ℝ) : EReal)

/-- What the kernel adds to bin `k` for a pixel of scaled magnitude `m` whose angle in bins is `p`. -/
def kerCell (m p : EReal) (k : Fin 10) : EReal :=
  (if kerBin p = ((k.val : ℝ) : EReal) then m * kerLow p else 0)
    + (if kerTop p = ((k.val : ℝ) : EReal) then m * kerHigh p else 0)

/-- What the reference adds to bin `k` for a pixel whose gradient is `(gx, gy)`. -/
def refCell (gx gy : EReal) (k : Fin 10) : EReal :=
  (if refBin (refPos gx gy) = BitVec.ofNat 32 k.val then mag gx gy * refLow (refPos gx gy) else 0)
    + (if refTop (refPos gx gy) = BitVec.ofNat 32 k.val then mag gx gy * refHigh (refPos gx gy) else 0)

/-- The two angles in bins are one real between -10 and 10. -/
theorem pos (gx gy : EReal) :
    ∃ p : ℝ, -10 ≤ p ∧ p ≤ 10 ∧ kerPos gx gy = (p : EReal) ∧ refPos gx gy = (p : EReal) := by
  obtain ⟨a, a0, a1, hk, hr⟩ := angle gx gy
  have hp : 0 < piF := by unfold piF; norm_num
  refine ⟨a / piF * 10, ?_, ?_, ?_, ?_⟩
  · have : -1 ≤ a / piF := by rw [le_div_iff₀ hp]; linarith
    linarith
  · have : a / piF ≤ 1 := by rw [div_le_one hp]; exact a1
    linarith
  · unfold kerPos
    rw [hk, show a / piF * 10 = a * (8388608 / 2635359) by unfold piF; ring]
    norm_cast
  · unfold refPos
    rw [hr, div_coe _ _ hp.ne']
    norm_cast

/-- A scaled, weighed magnitude is the weighed magnitude, scaled. -/
theorem scale (m : EReal) (c w : ℝ) : m * (c : EReal) * (w : EReal) = m * (w : EReal) * (c : EReal) := by
  rw [mul_assoc, mul_comm (c : EReal), ← mul_assoc]

/-- The reference's votes are not negative, and the kernel's are theirs over 64. -/
theorem cell (gx gy : EReal) (k : Fin 10) :
    0 ≤ refCell gx gy k
      ∧ kerCell (mag gx gy * ((1 / 64 : ℝ) : EReal)) (kerPos gx gy) k = refCell gx gy k * ((1 / 64 : ℝ) : EReal) := by
  obtain ⟨p, p0, p1, hk, hr⟩ := pos gx gy
  obtain ⟨kb, kt, wb, wt, hb, ht, e1, e2, e3, e4, e5, e6, e7, e8⟩ := bins p p0 p1
  have hm := mag_nonneg gx gy
  have hin : ∀ a b : Fin 10, BitVec.ofNat 32 a.val = BitVec.ofNat 32 b.val ↔ a = b := by decide
  have hkn : ∀ a b : Fin 10, ((a.val : ℝ) : EReal) = ((b.val : ℝ) : EReal) ↔ a = b := by
    intro a b
    rw [EReal.coe_eq_coe_iff, Nat.cast_inj, Fin.val_inj]
  have q1 : 0 ≤ mag gx gy * (wb : EReal) := mul_nonneg hm (by exact_mod_cast hb)
  have q2 : 0 ≤ mag gx gy * (wt : EReal) := mul_nonneg hm (by exact_mod_cast ht)
  unfold kerCell refCell
  rw [hk, hr, e1, e2, e3, e4, e5, e6, e7, e8]
  simp only [hin, hkn, scale]
  have n1 : 0 ≤ (if kb = k then mag gx gy * (wb : EReal) else 0) := by split_ifs <;> first | exact q1 | exact le_rfl
  have n2 : 0 ≤ (if kt = k then mag gx gy * (wt : EReal) else 0) := by split_ifs <;> first | exact q2 | exact le_rfl
  refine ⟨add_nonneg n1 n2, ?_⟩
  rw [EReal.right_distrib_of_nonneg n1 n2]
  congr 1
  · split_ifs <;> simp
  · split_ifs <;> simp

/-- A pixel of no magnitude adds nothing. -/
theorem kerCell_zero (p : EReal) (k : Fin 10) : kerCell 0 p k = 0 := by
  unfold kerCell; simp

end Cert.Hog

end
-- ==== Proof.Image.lean ====
/- One image's histogram, as the problem states it: the gradient of each pixel by the two Sobel filters over the image
   padded by one zero row and column on each side, each pixel's two votes, and the 8 by 8 sums of the votes over the same
   padding, over 64. Here are also the sums against the kernel's banded matrices: a sum over a whole row in which all but a
   few coefficients are zero is the sum of those few terms. -/
module

public import proofs.«01_k».proof.Proof.Pixel

@[expose] public section

noncomputable section

namespace Cert.Hog

open Idealize.ShloMosaic

/-- The padded image: row `r`, column `c` of it is row `r - 1`, column `c - 1` of the image, and zero outside. -/
def padded (A : Fin 512 → Fin 512 → EReal) (r c : ℕ) : EReal :=
  if h : (1 ≤ r ∧ r - 1 < 512) ∧ 1 ≤ c ∧ c - 1 < 512 then A ⟨r - 1, h.1.2⟩ ⟨c - 1, h.2.2⟩ else 0

/-- The gradient across the columns. -/
def gradX (A : Fin 512 → Fin 512 → EReal) (r c : ℕ) : EReal :=
  padded A r c - padded A r (c + 2) + ((2 : ℝ) : EReal) * (padded A (r + 1) c - padded A (r + 1) (c + 2))
    + (padded A (r + 2) c - padded A (r + 2) (c + 2))

/-- The gradient down the rows. -/
def gradY (A : Fin 512 → Fin 512 → EReal) (r c : ℕ) : EReal :=
  padded A r c + ((2 : ℝ) : EReal) * padded A r (c + 1) + padded A r (c + 2)
    - (padded A (r + 2) c + ((2 : ℝ) : EReal) * padded A (r + 2) (c + 1) + padded A (r + 2) (c + 2))

/-- The votes for bin `k` at row `r`, column `c` of the padded vote image. -/
def votes (A : Fin 512 → Fin 512 → EReal) (k : Fin 10) (r c : ℕ) : EReal :=
  if (1 ≤ r ∧ r - 1 < 512) ∧ 1 ≤ c ∧ c - 1 < 512 then
    refCell (gradX A (r - 1) (c - 1)) (gradY A (r - 1) (c - 1)) k
  else 0

/-- The histogram of one image. -/
def hist (A : Fin 512 → Fin 512 → EReal) (k : Fin 10) (i j : ℕ) : EReal :=
  (∑ d : Fin 8, ∑ e : Fin 8, votes A k (i + d.val) (j + e.val)) * ((1 / 64 : ℝ) : EReal)

/-- Votes are not negative. -/
theorem votes_nonneg (A : Fin 512 → Fin 512 → EReal) (k : Fin 10) (r c : ℕ) : 0 ≤ votes A k r c := by
  unfold votes
  split_ifs
  · exact (cell _ _ k).1
  · exact le_rfl

/-- A row of the padded image that lies in the image. -/
theorem padded_in (A : Fin 512 → Fin 512 → EReal) (r t : ℕ) (hr : r < 512) :
    padded A (r + 1) t = if h : 1 ≤ t ∧ t - 1 < 512 then A ⟨r, hr⟩ ⟨t - 1, h.2⟩ else 0 := by
  unfold padded
  by_cases h : 1 ≤ t ∧ t - 1 < 512
  · rw [dif_pos ⟨⟨by omega, by omega⟩, h⟩, dif_pos h]; rfl
  · rw [dif_neg (fun hh => h hh.2), dif_neg h]

/-- A row of the padded image below the image. -/
theorem padded_out (A : Fin 512 → Fin 512 → EReal) (r t : ℕ) (hr : ¬ r < 512) : padded A (r + 1) t = 0 := by
  unfold padded
  rw [dif_neg (by omega)]

/-- The row of the padded image above the image. -/
theorem padded_top (A : Fin 512 → Fin 512 → EReal) (t : ℕ) : padded A 0 t = 0 := by
  unfold padded
  rw [dif_neg (by omega)]

/-- A sum that picks one term, in padded coordinates. -/
theorem sum_pick {n : ℕ} (f : Fin n → EReal) (t : ℕ) :
    (∑ j : Fin n, if j.val + 1 = t then f j else 0) = if h : 1 ≤ t ∧ t - 1 < n then f ⟨t - 1, h.2⟩ else 0 := by
  split_ifs with h
  · rw [Finset.sum_eq_single (⟨t - 1, h.2⟩ : Fin n)]
    · rw [if_pos (by simp only; omega)]
    · intro b _ hb
      rw [if_neg (fun e => hb (Fin.ext (by simp only; omega)))]
    · intro hb; exact absurd (Finset.mem_univ _) hb
  · apply Finset.sum_eq_zero
    intro j _
    rw [if_neg (fun e => h ⟨by omega, by have := j.isLt; omega⟩)]

/-- A sum against the smoothing coefficients 1, 2, 1. -/
theorem sum_smooth {n : ℕ} (f : Fin n → EReal) (a b : Fin n → EReal) (t : ℕ)
    (ha : ∀ j : Fin n, a j = if j.val + 1 = t ∨ j.val + 1 = t + 2 then 1 else 0)
    (hb : ∀ j : Fin n, b j = if j.val + 1 = t + 1 then 1 else 0) :
    (∑ j : Fin n, f j * (a j + ((2 : ℝ) : EReal) * b j))
      = (if h : 1 ≤ t ∧ t - 1 < n then f ⟨t - 1, h.2⟩ else 0)
        + ((2 : ℝ) : EReal) * (if h : 1 ≤ t + 1 ∧ t + 1 - 1 < n then f ⟨t + 1 - 1, h.2⟩ else 0)
        + (if h : 1 ≤ t + 2 ∧ t + 2 - 1 < n then f ⟨t + 2 - 1, h.2⟩ else 0) := by
  have e2 : ((2 : ℝ) : EReal) * (if h : 1 ≤ t + 1 ∧ t + 1 - 1 < n then f ⟨t + 1 - 1, h.2⟩ else 0)
      = ∑ j : Fin n, if j.val + 1 = t + 1 then ((2 : ℝ) : EReal) * f j else 0 := by
    rw [sum_pick (fun j => ((2 : ℝ) : EReal) * f j)]; split_ifs <;> simp
  rw [e2, ← sum_pick, ← sum_pick, ← Finset.sum_add_distrib, ← Finset.sum_add_distrib]
  apply Finset.sum_congr rfl
  intro j _
  rw [ha, hb]
  rcases Nat.lt_trichotomy (j.val + 1) (t + 1) with h | h | h
  · by_cases h' : j.val + 1 = t
    · rw [if_pos (Or.inl h'), if_neg (by omega), if_pos h', if_neg (by omega), if_neg (by omega)]; simp
    · rw [if_neg (by omega), if_neg (by omega), if_neg h', if_neg (by omega), if_neg (by omega)]; simp
  · rw [if_neg (by omega), if_pos h, if_neg (by omega), if_pos h, if_neg (by omega), mul_comm]; simp
  · by_cases h' : j.val + 1 = t + 2
    · rw [if_pos (Or.inr h'), if_neg (by omega), if_neg (by omega), if_neg (by omega), if_pos h']; simp
    · rw [if_neg (by omega), if_neg (by omega), if_neg (by omega), if_neg (by omega), if_neg (by omega)]; simp

/-- A sum against the difference coefficients 1, 0, -1. -/
theorem sum_diff {n : ℕ} (f : Fin n → EReal) (a b : Fin n → EReal) (t : ℕ)
    (ha : ∀ j : Fin n, a j = if j.val + 1 = t then 1 else 0)
    (hb : ∀ j : Fin n, b j = if j.val + 1 = t + 2 then 1 else 0) :
    (∑ j : Fin n, f j * (a j - b j))
      = (if h : 1 ≤ t ∧ t - 1 < n then f ⟨t - 1, h.2⟩ else 0)
        - (if h : 1 ≤ t + 2 ∧ t + 2 - 1 < n then f ⟨t + 2 - 1, h.2⟩ else 0) := by
  have e2 : -(if h : 1 ≤ t + 2 ∧ t + 2 - 1 < n then f ⟨t + 2 - 1, h.2⟩ else 0)
      = ∑ j : Fin n, if j.val + 1 = t + 2 then -f j else 0 := by
    rw [sum_pick (fun j => -f j)]; split_ifs <;> simp
  rw [sub_eq_add_neg, e2, ← sum_pick, ← Finset.sum_add_distrib]
  apply Finset.sum_congr rfl
  intro j _
  rw [ha, hb]
  by_cases h : j.val + 1 = t
  · rw [if_pos h, if_neg (by omega), if_pos h, if_neg (by omega)]; simp
  · by_cases h' : j.val + 1 = t + 2
    · rw [if_neg h, if_pos h', if_neg h, if_pos h', zero_sub, mul_neg, mul_one, zero_add]
    · rw [if_neg h, if_neg h', if_neg h, if_neg h']; simp

/-- A sum against the band of eight ones. -/
theorem sum_band {n : ℕ} (f : Fin n → EReal) (a : Fin n → EReal) (t : ℕ)
    (ha : ∀ j : Fin n, a j = if t ≤ j.val + 1 ∧ j.val + 1 ≤ t + 7 then 1 else 0) :
    (∑ j : Fin n, f j * a j)
      = ∑ e : Fin 8, if h : 1 ≤ t + e.val ∧ t + e.val - 1 < n then f ⟨t + e.val - 1, h.2⟩ else 0 := by
  simp only [← sum_pick]
  rw [Finset.sum_comm]
  apply Finset.sum_congr rfl
  intro j _
  rw [ha]
  split_ifs with h
  · rw [Finset.sum_eq_single (⟨j.val + 1 - t, by omega⟩ : Fin 8)]
    · rw [if_pos (by simp only; omega), mul_one]
    · intro b _ hb
      rw [if_neg (fun e => hb (Fin.ext (by simp only; omega)))]
    · intro hb; exact absurd (Finset.mem_univ _) hb
  · rw [mul_zero]
    symm
    apply Finset.sum_eq_zero
    intro e _
    rw [if_neg (by have := e.isLt; omega)]

/-- The kernel's pooling: eight rows added, then a sum against the band, of votes already over 64. -/
theorem pool (A : Fin 512 → Fin 512 → EReal) (k : Fin 10) (i j : ℕ) (g : Fin 512 → EReal)
    (hg : ∀ c : Fin 512, g c = ∑ d : Fin 8, votes A k (i + d.val) (c.val + 1) * ((1 / 64 : ℝ) : EReal)) :
    (∑ e : Fin 8, if h : 1 ≤ j + e.val ∧ j + e.val - 1 < 512 then g ⟨j + e.val - 1, h.2⟩ else 0) = hist A k i j := by
  have sum_scale : ∀ (f : Fin 8 → EReal), (∀ d, 0 ≤ f d) →
      (∑ d, f d) * ((1 / 64 : ℝ) : EReal) = ∑ d, f d * ((1 / 64 : ℝ) : EReal) := by
    intro f hf
    simp only [Fin.sum_univ_eight]
    repeat rw [EReal.right_distrib_of_nonneg (by repeat' first | exact hf _ | apply add_nonneg) (hf _)]
  unfold hist
  rw [Finset.sum_comm, sum_scale _ (fun e => Finset.sum_nonneg fun d _ => votes_nonneg A k _ _)]
  apply Finset.sum_congr rfl
  intro e _
  rw [sum_scale _ (fun d => votes_nonneg A k _ _)]
  split_ifs with h
  · rw [hg]
    apply Finset.sum_congr rfl
    intro d _
    rw [Nat.sub_add_cancel h.1]
  · symm
    apply Finset.sum_eq_zero
    intro d _
    unfold votes
    rw [if_neg (fun hh => h hh.2), zero_mul]

end Cert.Hog

end
-- ==== Proof.Sobel.lean ====
/- The kernel's gradients. It smooths and differences along the columns by two banded matrix products, adds eight zero
   rows below, and combines the rows by rotations. On the rows that the vote mask keeps (1 to 512) the result is the
   gradient of the padded image, one row up. -/
module

public import proofs.«01_k».proof.Proof.Image
public import proofs.«01_k».proof.Proof.Gen.KernelIdeal.Value

@[expose] public section

set_option maxRecDepth 16384

noncomputable section

namespace Cert.KernelIdeal.Hog

open Cert.KernelIdeal Cert.KernelIdeal.Gen Cert.Hog Idealize.ShloMosaic Idealize.SL.Sem

/-- The image in a block. -/
def image (x0 : Vec Ideal S1x1x512x512 .f32) : Fin 512 → Fin 512 → EReal := fun r c => x0 (ix4 0 0 r c)

/-- A bit made a word and then a float is one or zero. -/
theorem bit_float (b : Bool) :
    FloatOps.sitofp (F := Ideal) .f32 (BitVec.setWidth 32 (BitVec.ofBool b)) = if b = true then (1 : EReal) else 0 := by
  change ((((BitVec.setWidth 32 (BitVec.ofBool b)).toInt : ℝ)) : EReal) = _
  cases b
  · rw [show (BitVec.setWidth 32 (BitVec.ofBool false)).toInt = 0 by decide]; simp
  · rw [show (BitVec.setWidth 32 (BitVec.ofBool true)).toInt = 1 by decide]; simp

/-- The kernel's test of the offset between output column `c` and input column `j`. -/
theorem offset_eq (j c : Fin 512) (d : ℕ) (hd : d ≤ 2) :
    IntOp.cmpi .eq (IntOp.subi (IntOp.addi (BitVec.ofNat 32 c.val) 1#32) (BitVec.ofNat 32 j.val)) (BitVec.ofNat 32 d)
      = BitVec.ofBool (decide (j.val + 1 = c.val + (2 - d))) := by
  change BitVec.ofBool (decide ((BitVec.ofNat 32 c.val + 1#32 - BitVec.ofNat 32 j.val) = BitVec.ofNat 32 d)) = _
  congr 1
  rw [decide_eq_decide]
  have hj := j.isLt
  have hc := c.isLt
  constructor
  · intro h
    have h' := congrArg BitVec.toNat h
    simp only [BitVec.toNat_sub, BitVec.toNat_add, BitVec.toNat_ofNat] at h'
    omega
  · intro h
    apply BitVec.eq_of_toNat_eq
    simp only [BitVec.toNat_sub, BitVec.toNat_add, BitVec.toNat_ofNat]
    omega

/-- The printed disjunction of two bits. -/
theorem or_bits (a b : Bool) : IntOp.ori (BitVec.ofBool a) (BitVec.ofBool b) = BitVec.ofBool (a || b) := by
  cases a <;> cases b <;> rfl

/-- The smoothed rows. -/
theorem smooth_at (x0 : Vec Ideal S1x1x512x512 .f32) (r : Fin 520) (c : Fin 512) :
    k0_pay50 x0 (ix2 r c)
      = padded (image x0) (r.val + 1) c.val + ((2 : ℝ) : EReal) * padded (image x0) (r.val + 1) (c.val + 1)
        + padded (image x0) (r.val + 1) (c.val + 2) := by
  unfold k0_pay50
  pointwise [k0_pay5, k0_pay2, k0_pay3, k0_pay4]
  split_ifs with h
  · simp only [offset_eq _ _ _ (show 0 ≤ 2 by decide), offset_eq _ _ _ (show 1 ≤ 2 by decide), offset_eq _ _ _ (le_refl 2), or_bits,
      bit_float, half_2]
    rw [padded_in _ _ _ h, padded_in _ _ _ h, padded_in _ _ _ h]
    refine sum_smooth (fun x => x0 (ix4 0 0 ⟨r.val, h⟩ x)) _ _ c.val (fun j => ?_) (fun j => ?_)
    · simp only [Bool.or_eq_true, decide_eq_true_eq]
      exact if_congr (by omega) rfl rfl
    · simp only [decide_eq_true_eq]
  · rw [padded_out _ _ _ h, padded_out _ _ _ h, padded_out _ _ _ h]; simp

/-- The differenced rows. -/
theorem diff_at (x0 : Vec Ideal S1x1x512x512 .f32) (r : Fin 520) (c : Fin 512) :
    k0_pay6 (View.ld x0 r0_0) (ix2 r c)
      = padded (image x0) (r.val + 1) c.val - padded (image x0) (r.val + 1) (c.val + 2) := by
  pointwise [k0_pay6, k0_pay2, k0_pay3, k0_pay4]
  split_ifs with h
  · simp only [offset_eq _ _ _ (show 0 ≤ 2 by decide), offset_eq _ _ _ (le_refl 2), bit_float]
    rw [padded_in _ _ _ h, padded_in _ _ _ h]
    refine sum_diff (fun x => x0 (ix4 0 0 ⟨r.val, h⟩ x)) _ _ c.val (fun j => ?_) (fun j => ?_)
    · simp only [decide_eq_true_eq]; rfl
    · simp only [decide_eq_true_eq]
  · rw [padded_out _ _ _ h, padded_out _ _ _ h]; simp

/-- The kernel's gradient across the columns, on the rows that count. -/
theorem gx_at (x0 : Vec Ideal S1x1x512x512 .f32) (r : Fin 520) (c : Fin 512) (h1 : 1 ≤ r.val) (h2 : r.val ≤ 512) :
    k0_pay10 (k0_pay51 x0) (k0_pay52 x0) (k0_pay53 x0) (k0_pay54 x0) (ix2 r c) = gradX (image x0) (r.val - 1) c.val := by
  unfold k0_pay51 k0_pay52 k0_pay53 k0_pay54
  pointwise [k0_pay10, k0_pay7, k0_pay8, k0_pay9]
  unfold gradX
  rw [dif_neg (show ¬ r.val < 1 by omega), bits_2, diff_at, diff_at]
  congr 1
  · congr 1
    · split_ifs with h
      · rw [diff_at, padded_out _ _ _ (by simp only; omega), padded_out _ _ _ (by simp only; omega),
          show r.val - 1 = 0 by omega, padded_top, padded_top]
      · rw [diff_at, show r.val - 2 + 1 = r.val - 1 by omega]
      · exact absurd rfl ‹¬ _›
  · rw [show r.val - 1 + 2 = r.val + 1 by omega]

/-- The kernel's gradient down the rows, on the rows that count. -/
theorem gy_at (x0 : Vec Ideal S1x1x512x512 .f32) (r : Fin 520) (c : Fin 512) (h1 : 1 ≤ r.val) (h2 : r.val ≤ 512) :
    k0_pay11 (k0_pay50 x0) (ix2 r c) = gradY (image x0) (r.val - 1) c.val := by
  pointwise [k0_pay11]
  unfold gradY
  rw [smooth_at x0 r c]
  congr 1
  · split_ifs with h
    · rw [smooth_at, padded_out _ _ _ (by simp only; omega), padded_out _ _ _ (by simp only; omega),
        padded_out _ _ _ (by simp only; omega), show r.val - 1 = 0 by omega, padded_top, padded_top, padded_top]
    · rw [smooth_at, show r.val - 2 + 1 = r.val - 1 by omega]
    · exact absurd rfl ‹¬ _›
  · rw [show r.val - 1 + 2 = r.val + 1 by omega]

end Cert.KernelIdeal.Hog

end
-- ==== Proof.Votes.lean ====
/- The kernel's votes at one place of its 520 by 512 vote image: from the two gradients there, the angle in bins, the two
   bins and the two weights; outside rows 1 to 512 the magnitude is masked to zero. -/
module

public import proofs.«01_k».proof.Proof.Sobel

@[expose] public section

set_option maxRecDepth 16384

noncomputable section

namespace Cert.KernelIdeal.Hog

open Cert.KernelIdeal Cert.KernelIdeal.Gen Cert.Hog Idealize.ShloMosaic Idealize.SL.Sem

/-- The kernel's gradient across the columns at a place. -/
def kgx (x0 : Vec Ideal S1x1x512x512 .f32) (r : Fin 520) (c : Fin 512) : EReal :=
  k0_pay10 (k0_pay51 x0) (k0_pay52 x0) (k0_pay53 x0) (k0_pay54 x0) (ix2 r c)

/-- The kernel's gradient down the rows at a place. -/
def kgy (x0 : Vec Ideal S1x1x512x512 .f32) (r : Fin 520) (c : Fin 512) : EReal := k0_pay11 (k0_pay50 x0) (ix2 r c)

/-- A choice by the bit of a decision. -/
theorem select_decide {α : Type} (p : Prop) [Decidable p] (a b : α) :
    Scalar.select (BitVec.ofBool (decide p)) a b = if p then a else b := by
  by_cases h : p <;> simp [h, Scalar.select]

/-- The ratio of the smaller gradient to the larger. -/
theorem ratio_at (x0 : Vec Ideal S1x1x512x512 .f32) (r : Fin 520) (c : Fin 512) :
    k0_pay15 (k0_pay50 x0) (k0_pay51 x0) (k0_pay52 x0) (k0_pay53 x0) (k0_pay54 x0) (ix2 r c)
      = kerRatio (max (kgy x0 r c) (-kgy x0 r c)) (max (kgx x0 r c) (-kgx x0 r c)) := by
  pointwise [k0_pay15, k0_pay13, k0_pay14]
  rfl

/-- The polynomial's argument. -/
theorem arg_at (x0 : Vec Ideal S1x1x512x512 .f32) (r : Fin 520) (c : Fin 512) :
    k0_pay61 x0 (ix2 r c)
      = (fun q : EReal => if (cut : EReal) < q then Ideal.div (q - 1) (q + 1) else q)
          (kerRatio (max (kgy x0 r c) (-kgy x0 r c)) (max (kgx x0 r c) (-kgx x0 r c))) := by
  unfold k0_pay61
  pointwise [k0_pay17, k0_pay16]
  rw [ratio_at, bits_cut]

/-- The angle in bins. -/
theorem pos_at (x0 : Vec Ideal S1x1x512x512 .f32) (r : Fin 520) (c : Fin 512) :
    k0_pay21 (k0_pay55 x0) (k0_pay56 x0) (k0_pay58 x0) (k0_pay59 x0) (k0_pay60 x0) (k0_pay61 x0) (k0_pay62 x0)
      (k0_pay63 x0) (k0_pay64 x0) (ix2 r c) = kerPos (kgx x0 r c) (kgy x0 r c) := by
  have e55 : k0_pay55 x0 (ix2 r c) = kgx x0 r c := rfl
  have e56 : k0_pay56 x0 (ix2 r c) = kgy x0 r c := rfl
  have e58 : k0_pay58 x0 (ix2 r c) = max (kgy x0 r c) (-kgy x0 r c) := rfl
  have e59 : k0_pay59 x0 (ix2 r c) = max (kgx x0 r c) (-kgx x0 r c) := rfl
  have e60 : k0_pay60 x0 (ix2 r c)
      = BitVec.ofBool (decide ((cut : EReal) < kerRatio (max (kgy x0 r c) (-kgy x0 r c)) (max (kgx x0 r c) (-kgx x0 r c)))) := by
    unfold k0_pay60
    pointwise [k0_pay16]
    rw [ratio_at, bits_cut]
  have e62 : k0_pay62 x0 (ix2 r c) = k0_pay61 x0 (ix2 r c) * k0_pay61 x0 (ix2 r c) := rfl
  have e63 : k0_pay63 x0 (ix2 r c)
      = (((10809553 / 134217728 : ℝ) : EReal) * (k0_pay61 x0 (ix2 r c) * k0_pay61 x0 (ix2 r c)) - ((9313157 / 67108864 : ℝ) : EReal))
        * (k0_pay61 x0 (ix2 r c) * k0_pay61 x0 (ix2 r c)) := by
    unfold k0_pay63
    pointwise [k0_pay19, k0_pay18]
    rw [bits_c3, bits_c2]; rfl
  have e64 : k0_pay64 x0 (ix2 r c) = ((13406815 / 67108864 : ℝ) : EReal) := by
    unfold k0_pay64
    pointwise [k0_pay20]
    exact bits_c1
  have ek : Named.named (F := Ideal) κ "bins_per_radian" (φ := .f32) 1078704100#32 = ((8388608 / 2635359 : ℝ) : EReal) := rfl
  pointwise [k0_pay21]
  rw [e55, e56, e58, e59, e60, e62, e63, e64, arg_at, bits_pi, bits_pi2, bits_pi4, bits_c0, ek]
  simp only [select_decide]
  rfl

/-- The kernel's mask of the rows that count. -/
theorem mask_at (r : Fin 520) :
    IntOp.andi (IntOp.cmpi .sge (BitVec.ofNat 32 r.val) 1#32) (IntOp.cmpi .sle (BitVec.ofNat 32 r.val) 512#32)
      = BitVec.ofBool (decide (1 ≤ r.val ∧ r.val ≤ 512)) := by
  revert r
  decide

/-- The masked magnitude, over 64. -/
theorem mag_at (x0 : Vec Ideal S1x1x512x512 .f32) (r : Fin 520) (c : Fin 512) :
    k0_pay57 x0 (ix2 r c)
      = if 1 ≤ r.val ∧ r.val ≤ 512 then mag (kgx x0 r c) (kgy x0 r c) * ((1 / 64 : ℝ) : EReal) else 0 := by
  unfold k0_pay57
  pointwise [k0_pay12]
  rw [mask_at, select_decide, bits_64th]
  rfl

/-- The lower bin. -/
theorem bin_at (x0 : Vec Ideal S1x1x512x512 .f32) (r : Fin 520) (c : Fin 512) :
    k0_pay66 x0 (ix2 r c) = kerBin (kerPos (kgx x0 r c) (kgy x0 r c)) := by
  unfold k0_pay66
  pointwise [k0_pay24, k0_pay22]
  rw [pos_at, bits_10]
  rfl

/-- The distance above the lower bin. -/
theorem frac_at (x0 : Vec Ideal S1x1x512x512 .f32) (r : Fin 520) (c : Fin 512) :
    k0_pay65 x0 (ix2 r c) = kerFrac (kerPos (kgx x0 r c) (kgy x0 r c)) := by
  unfold k0_pay65
  pointwise [k0_pay23, k0_pay22]
  rw [pos_at]
  rfl

/-- The upper bin. -/
theorem top_at (x0 : Vec Ideal S1x1x512x512 .f32) (r : Fin 520) (c : Fin 512) :
    k0_pay28 (k0_pay66 x0) (k0_pay67 x0) (k0_pay68 x0) (k0_pay69 x0) (ix2 r c) = kerTop (kerPos (kgx x0 r c) (kgy x0 r c)) := by
  have e67 : k0_pay67 x0 (ix2 r c) = BitVec.ofBool (decide (k0_pay65 x0 (ix2 r c) = 0)) := by
    unfold k0_pay67 k0_pay65
    pointwise [k0_pay25]
  have e68 : k0_pay68 x0 (ix2 r c) = BitVec.ofBool (decide (k0_pay66 x0 (ix2 r c) = ((9 : ℝ) : EReal))) := by
    unfold k0_pay68 k0_pay66
    pointwise [k0_pay26]
    rw [bits_9]
  have e69 : k0_pay69 x0 (ix2 r c) = (1 : EReal) := by
    unfold k0_pay69
    pointwise [k0_pay27]
  pointwise [k0_pay28]
  rw [e67, e68, e69, bin_at, frac_at, select_decide, select_decide]
  rfl

/-- The kernel's votes for bin `k`. -/
theorem votes_at (x0 : Vec Ideal S1x1x512x512 .f32) (k : Fin 10) (r : Fin 520) (c : Fin 512) :
    addf (select (cmpf .oeq (k0_pay70 x0) (broadcast S520x512 (Scalar.ofBits .bf16 (binBits k)))) (k0_pay72 x0) (k0_pay74 x0))
        (select (cmpf .oeq (k0_pay71 x0) (broadcast S520x512 (Scalar.ofBits .bf16 (binBits k)))) (k0_pay73 x0) (k0_pay74 x0))
        (ix2 r c)
      = votes (image x0) k r.val (c.val + 1) * ((1 / 64 : ℝ) : EReal) := by
  have hb : Ideal.ofBits .bf16 (binBits k) = ((k.val : ℝ) : EReal) := binBits_eq k
  generalize binBits k = b at hb
  have e70 : k0_pay70 x0 (ix2 r c) = kerBin (kerPos (kgx x0 r c) (kgy x0 r c)) := by
    unfold k0_pay70
    pointwise [k0_pay29]
    exact bin_at x0 r c
  have e71 : k0_pay71 x0 (ix2 r c) = kerTop (kerPos (kgx x0 r c) (kgy x0 r c)) := by
    unfold k0_pay71
    pointwise [k0_pay30]
    exact top_at x0 r c
  have e72 : k0_pay72 x0 (ix2 r c) = k0_pay57 x0 (ix2 r c) * kerLow (kerPos (kgx x0 r c) (kgy x0 r c)) := by
    unfold k0_pay72
    pointwise [k0_pay31]
    rw [frac_at]; rfl
  have e73 : k0_pay73 x0 (ix2 r c) = k0_pay57 x0 (ix2 r c) * kerHigh (kerPos (kgx x0 r c) (kgy x0 r c)) := by
    unfold k0_pay73
    pointwise [k0_pay32]
    rw [frac_at, top_at, bin_at]; rfl
  have e74 : k0_pay74 x0 (ix2 r c) = (0 : EReal) := by
    unfold k0_pay74
    pointwise [k0_pay33]
  have step : addf (select (cmpf .oeq (k0_pay70 x0) (broadcast S520x512 (Scalar.ofBits .bf16 b))) (k0_pay72 x0) (k0_pay74 x0))
        (select (cmpf .oeq (k0_pay71 x0) (broadcast S520x512 (Scalar.ofBits .bf16 b))) (k0_pay73 x0) (k0_pay74 x0))
        (ix2 r c) = kerCell (k0_pay57 x0 (ix2 r c)) (kerPos (kgx x0 r c) (kgy x0 r c)) k := by
    pointwise []
    rw [e70, e71, e72, e73, e74, hb]
    rfl
  rw [step, mag_at]
  unfold votes
  by_cases h : 1 ≤ r.val ∧ r.val ≤ 512
  · rw [if_pos h, (cell _ _ k).2, if_pos ⟨⟨h.1, by omega⟩, by omega, by have := c.isLt; omega⟩]
    unfold kgx kgy
    rw [gx_at x0 r c h.1 h.2, gy_at x0 r c h.1 h.2, Nat.add_sub_cancel]
  · rw [if_neg h, kerCell_zero, if_neg (by omega), zero_mul]

end Cert.KernelIdeal.Hog

end
-- ==== Proof.Block.lean ====
/- What the kernel leaves in one output block: for each bin, the votes' rows added eight at a time by three rotations, then
   the product with the band. Each of the ten stored planes is the same expression at its own bin number, and at each place
   it is the histogram of the image in the input block. -/
module

public import proofs.«01_k».proof.Proof.Votes

@[expose] public section

set_option maxRecDepth 16384

noncomputable section

namespace Cert.KernelIdeal.Hog

open Cert.KernelIdeal Cert.KernelIdeal.Gen Cert.Hog Idealize.ShloMosaic Idealize.SL.Sem

/-- The rows rotated up by one and added. -/
def rot1 (v : FVec Ideal S520x512 .bf16) : FVec Ideal S520x512 .bf16 :=
  addf v (concatenate S520x512 0
    [⟨S519x512, extractStridedSlice S519x512 ![1, 0] v slices_S520x512_o1_0_S519x512⟩,
     ⟨S1x512, extractStridedSlice S1x512 ![0, 0] v slices_S520x512_o0_0_S1x512⟩] concatenates_S519x512_S1x512_S520x512_d0)

/-- The rows rotated up by two and added. -/
def rot2 (v : FVec Ideal S520x512 .bf16) : FVec Ideal S520x512 .bf16 :=
  addf v (concatenate S520x512 0
    [⟨S518x512, extractStridedSlice S518x512 ![2, 0] v slices_S520x512_o2_0_S518x512⟩,
     ⟨S2x512, extractStridedSlice S2x512 ![0, 0] v slices_S520x512_o0_0_S2x512⟩] concatenates_S518x512_S2x512_S520x512_d0)

/-- The rows rotated up by four and added. -/
def rot4 (v : FVec Ideal S520x512 .bf16) : FVec Ideal S520x512 .bf16 :=
  addf v (concatenate S520x512 0
    [⟨S516x512, extractStridedSlice S516x512 ![4, 0] v slices_S520x512_o4_0_S516x512⟩,
     ⟨S4x512, extractStridedSlice S4x512 ![0, 0] v slices_S520x512_o0_0_S4x512⟩] concatenates_S516x512_S4x512_S520x512_d0)

/-- Away from the last row the rotation by one adds the next row. -/
theorem rot1_at (v : FVec Ideal S520x512 .bf16) (r : Fin 520) (c : Fin 512) (h : r.val < 519) :
    rot1 v (ix2 r c) = v (ix2 r c) + v (ix2 ⟨r.val + 1, by omega⟩ c) := by
  pointwise [rot1]
  rw [dif_pos h]
  simp only [Nat.add_comm]

/-- Away from the last two rows the rotation by two adds the second next row. -/
theorem rot2_at (v : FVec Ideal S520x512 .bf16) (r : Fin 520) (c : Fin 512) (h : r.val < 518) :
    rot2 v (ix2 r c) = v (ix2 r c) + v (ix2 ⟨r.val + 2, by omega⟩ c) := by
  pointwise [rot2]
  rw [dif_pos h]
  simp only [Nat.add_comm]

/-- Away from the last four rows the rotation by four adds the fourth next row. -/
theorem rot4_at (v : FVec Ideal S520x512 .bf16) (r : Fin 520) (c : Fin 512) (h : r.val < 516) :
    rot4 v (ix2 r c) = v (ix2 r c) + v (ix2 ⟨r.val + 4, by omega⟩ c) := by
  pointwise [rot4]
  rw [dif_pos h]
  simp only [Nat.add_comm]

/-- Three rotations add eight consecutive rows. -/
theorem rows8_at (v : FVec Ideal S520x512 .bf16) (r : Fin 520) (c : Fin 512) (h : r.val < 512) :
    rot4 (rot2 (rot1 v)) (ix2 r c) = ∑ d : Fin 8, v (ix2 ⟨r.val + d.val, by omega⟩ c) := by
  rw [rot4_at _ r c (by omega), rot2_at _ r c (by omega), rot2_at _ _ c (by simp only; omega), rot1_at _ r c (by omega),
    rot1_at _ _ c (by simp only; omega), rot1_at _ _ c (by simp only; omega), rot1_at _ _ c (by simp only; omega),
    Fin.sum_univ_eight]
  simp only [Fin.isValue, Fin.val_zero, Fin.val_one, Fin.val_two, Nat.add_zero, Nat.add_assoc]
  simp only [← add_assoc]
  rfl

/-- The votes for bin `k` over the whole vote image. -/
def votesV (x0 : Vec Ideal S1x1x512x512 .f32) (k : Fin 10) : FVec Ideal S520x512 .bf16 :=
  addf (select (cmpf .oeq (k0_pay70 x0) (broadcast S520x512 (Scalar.ofBits .bf16 (binBits k)))) (k0_pay72 x0) (k0_pay74 x0))
    (select (cmpf .oeq (k0_pay71 x0) (broadcast S520x512 (Scalar.ofBits .bf16 (binBits k)))) (k0_pay73 x0) (k0_pay74 x0))

/-- The plane of bin `k`. -/
def plane (x0 : Vec Ideal S1x1x512x512 .f32) (k : Fin 10) : FVec Ideal S1x1x507x507 .f32 :=
  shapeCast S1x1x507x507
    (extractStridedSlice S507x507 ![0, 0]
      (matmul dot_S520x512_S512x512_S520x512_1_0_0_1_n_n none (rot4 (rot2 (rot1 (votesV x0 k)))) (k0_pay75 x0)
        (constant S520x512 .f32 0x00000000#32)) slices_S520x512_o0_0_S507x507) shapeCasts_S507x507_S1x1x507x507

/-- The band's coefficients. -/
theorem band_at (x0 : Vec Ideal S1x1x512x512 .f32) (j c : Fin 512) :
    k0_pay75 x0 (ix2 j c) = if c.val ≤ j.val + 1 ∧ j.val + 1 ≤ c.val + 7 then (1 : EReal) else 0 := by
  unfold k0_pay75
  pointwise [k0_pay34]
  have hj := j.isLt
  have hc := c.isLt
  have e : IntOp.andi (IntOp.cmpi .sge (IntOp.subi (BitVec.ofNat 32 j.val) (BitVec.ofNat 32 c.val)) 4294967295#32)
      (IntOp.cmpi .sle (IntOp.subi (BitVec.ofNat 32 j.val) (BitVec.ofNat 32 c.val)) 6#32)
      = BitVec.ofBool (decide (c.val ≤ j.val + 1 ∧ j.val + 1 ≤ c.val + 7)) := by
    have ht : (IntOp.subi (BitVec.ofNat 32 j.val) (BitVec.ofNat 32 c.val)).toInt = (j.val : ℤ) - c.val := by
      change (BitVec.ofNat 32 j.val - BitVec.ofNat 32 c.val).toInt = _
      rw [BitVec.toInt_eq_toNat_cond]
      simp only [BitVec.toNat_sub, BitVec.toNat_ofNat]
      split_ifs <;> omega
    generalize IntOp.subi (BitVec.ofNat 32 j.val) (BitVec.ofNat 32 c.val) = w at ht
    change BitVec.ofBool (decide ((4294967295#32).toInt ≤ w.toInt)) &&& BitVec.ofBool (decide (w.toInt ≤ (6#32).toInt)) = _
    rw [ht, show (4294967295#32).toInt = -1 by decide, show (6#32).toInt = 6 by decide]
    by_cases h1 : c.val ≤ j.val + 1 <;> by_cases h2 : j.val + 1 ≤ c.val + 7
    · rw [decide_eq_true (by omega), decide_eq_true (by omega), decide_eq_true (by omega)]; rfl
    · rw [decide_eq_true (by omega), decide_eq_false (by omega), decide_eq_false (by omega)]; rfl
    · rw [decide_eq_false (by omega), decide_eq_true (by omega), decide_eq_false (by omega)]; rfl
    · rw [decide_eq_false (by omega), decide_eq_false (by omega), decide_eq_false (by omega)]; rfl
  rw [e, bit_float]
  refine if_congr ?_ rfl rfl
  rw [decide_eq_true_eq]
  omega

/-- The plane of bin `k` is the image's histogram in that bin. -/
theorem plane_at (x0 : Vec Ideal S1x1x512x512 .f32) (k : Fin 10) (i j : Fin 507) :
    plane x0 k (ix4 0 0 i j) = hist (image x0) k i.val j.val := by
  pointwise [plane]
  refine (sum_band (fun x => rot4 (rot2 (rot1 (votesV x0 k))) (ix2 ⟨i.val, by omega⟩ x)) _ j.val (fun x => band_at x0 x _)).trans ?_
  refine pool (image x0) k i.val j.val (fun x => rot4 (rot2 (rot1 (votesV x0 k))) (ix2 ⟨i.val, by omega⟩ x)) (fun c => ?_)
  change rot4 (rot2 (rot1 (votesV x0 k))) (ix2 _ c) = _
  rw [rows8_at _ _ c (by simp only; omega)]
  apply Finset.sum_congr rfl
  intro d _
  exact votes_at x0 k _ c

/-- The whole block. -/
def blockG (x0 : Vec Ideal S1x1x512x512 .f32) : S1x10x507x507.Idx → Elt Ideal .f32 :=
  fun y => hist (image x0) ⟨(y 1).val, (y 1).isLt⟩ (y 2).val (y 3).val

/-- A plane's element is the block's at the same bin, row and column. -/
theorem plane_eq (b : Vec Ideal S1x1x512x512 .f32) (k : Fin 10) (x : S1x1x507x507.Idx) (y : S1x10x507x507.Idx)
    (h1 : (y 1).val = k.val + 1 * (x 1).val) (h2 : (y 2).val = 0 + 1 * (x 2).val) (h3 : (y 3).val = 0 + 1 * (x 3).val) :
    plane b k x = blockG b y := by
  idx_vars x
  have hk : (⟨(y 1).val, (y 1).isLt⟩ : Fin 10) = k := Fin.ext (by rw [h1]; simp)
  unfold blockG
  rw [hk, h2, h3]
  obtain rfl : x0 = 0 := Subsingleton.elim _ _
  obtain rfl : x1 = 0 := Subsingleton.elim _ _
  rw [plane_at]
  change hist _ _ _ _ = hist _ _ (0 + 1 * x2.val) (0 + 1 * x3.val)
  rw [one_mul, zero_add, one_mul, zero_add]

/-- What the body leaves in the output block is the histogram of the image in the input block. -/
theorem out_eq (x0 : Vec Ideal S1x1x512x512 .f32) : out0_1 x0 = blockG x0 := by
  funext y
  unfold out0_1
  refine View.canon_apply_of_pieces (blockG x0) _ ?_ y (cover0_1 _ _ _ _ _ _ _ _ _ _ y)
  intro p hp x
  simp only [List.mem_cons, List.not_mem_nil, or_false] at hp
  rcases hp with rfl | rfl | rfl | rfl | rfl | rfl | rfl | rfl | rfl | rfl
  · exact plane_eq x0 9 x _ rfl rfl rfl
  · exact plane_eq x0 8 x _ rfl rfl rfl
  · exact plane_eq x0 7 x _ rfl rfl rfl
  · exact plane_eq x0 6 x _ rfl rfl rfl
  · exact plane_eq x0 5 x _ rfl rfl rfl
  · exact plane_eq x0 4 x _ rfl rfl rfl
  · exact plane_eq x0 3 x _ rfl rfl rfl
  · exact plane_eq x0 2 x _ rfl rfl rfl
  · exact plane_eq x0 1 x _ rfl rfl rfl
  · exact plane_eq x0 0 x _ rfl rfl rfl

end Cert.KernelIdeal.Hog

end
-- ==== Proof.Array.lean ====
/- The kernel's whole output array: one histogram per image of the batch. Each grid point reads one image and writes that
   image's block; the blocks cover the array. -/
module

public import proofs.«01_k».proof.Proof.Block
public import proofs.«01_k».proof.Proof.Gen.KernelIdeal.Value
public import Idealize.ShloMosaic.Lib.Pipeline.Value

@[expose] public section

noncomputable section

namespace Cert.KernelIdeal.Hog

open Cert.KernelIdeal Cert.KernelIdeal.Gen Cert.KernelIdeal.Value Cert.Hog Idealize.ShloMosaic Idealize.ShloMosaic.TcCoe
  Idealize.SL.Sem

/-- Image `n` of the batch, by row and column. -/
def picture (x : Vec Ideal S16x1x512x512 .f32) (n : Fin 16) : Fin 512 → Fin 512 → EReal := fun r c => x (ix4 n 0 r c)

/-- The histograms of the whole batch. -/
def batch (x : Vec Ideal S16x1x512x512 .f32) : Vec Ideal S16x10x507x507 .f32 :=
  fun y => hist (picture x (y 0)) (y 1) (y 2).val (y 3).val

variable (m : (ℓ : Loc nD τ sig) → Buf (Elt Ideal) ℓ) (ρ : Dev nD → PrngReg)

/-- Grid point `t` reads image `t`, whole. -/
theorem idx_in : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- Grid point `t` writes the histogram of image `t`, whole. -/
theorem idx_out : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- An index of grid point `t`'s input block, as an index of the batch. -/
theorem emb_in (t : Fin cfg0.N) (r c : Fin 512) :
    ((cfg0.win 0).blk t).view.emb (ix4 0 0 r c : S1x1x512x512.Idx) = (ix4 t 0 r c : S16x1x512x512.Idx) := by
  obtain ⟨e0, e1, e2, e3⟩ := idx_in t
  funext a; apply Fin.ext
  match a with
  | ⟨0, _⟩ => show win0_0.index t (0 : Fin 4) * 1 + 1 * 0 = t.val; omega
  | ⟨1, _⟩ => show win0_0.index t (1 : Fin 4) * 1 + 1 * 0 = 0; omega
  | ⟨2, _⟩ => show win0_0.index t (2 : Fin 4) * 512 + 1 * r.val = r.val; omega
  | ⟨3, _⟩ => show win0_0.index t (3 : Fin 4) * 512 + 1 * c.val = c.val; omega

/-- An index of grid point `t`'s output block, as an index of the histograms. -/
theorem emb_out (t : Fin cfg0.N) (y : S1x10x507x507.Idx) :
    ((cfg0.win 1).blk t).view.emb y = (ix4 t (y 1) (y 2) (y 3) : S16x10x507x507.Idx) := by
  obtain ⟨e0, e1, e2, e3⟩ := idx_out t
  have h0 : (y 0).val < 1 := (y 0).isLt
  funext a; apply Fin.ext
  match a with
  | ⟨0, _⟩ => show win0_1.index t (0 : Fin 4) * 1 + 1 * (y 0).val = t.val; omega
  | ⟨1, _⟩ => show win0_1.index t (1 : Fin 4) * 10 + 1 * (y 1).val = (y 1).val; omega
  | ⟨2, _⟩ => show win0_1.index t (2 : Fin 4) * 507 + 1 * (y 2).val = (y 2).val; omega
  | ⟨3, _⟩ => show win0_1.index t (3 : Fin 4) * 507 + 1 * (y 3).val = (y 3).val; omega

/-- The input block of grid point `t` is image `t`. -/
theorem image_in (c : Dev nD) (t : Fin cfg0.N) : image (iblk m c 0 t) = picture (V m c main_arg0) t := by
  funext r s
  show V m c main_arg0 (((cfg0.win 0).blk t).view.emb (ix4 0 0 r s : S1x1x512x512.Idx)) = _
  rw [emb_in]
  rfl

/-- What grid point `t` writes is its block of the batch's histograms. -/
theorem written (c : Dev nD) (t : Fin cfg0.N) :
    (dats m 0 c).flushed 1 t = ((cfg0.win 1).blk t).view.read (Elt Ideal) (batch (V m c main_arg0)) := by
  rw [flushed1, out_eq]
  funext y
  show blockG (iblk m c 0 t) y = batch (V m c main_arg0) (((cfg0.win 1).blk t).view.emb y)
  rw [emb_out]
  unfold blockG
  rw [image_in]
  rfl

/-- An index of the histograms lies in the block of the grid point with the image's number. -/
theorem mem_point (t : Fin cfg0.N) (k : Fin 10) (i j : Fin 507) :
    (ix4 t k i j : S16x10x507x507.Idx) ∈ ((cfg0.win 1).blk t).view.set := by
  have h := ((cfg0.win 1).blk t).view.emb_mem_set (ix4 0 k i j : S1x10x507x507.Idx)
  have e := emb_out t (ix4 0 k i j : S1x10x507x507.Idx)
  exact (congrArg (fun z => z ∈ ((cfg0.win 1).blk t).view.set) e).mp h

/-- The blocks cover the array. -/
theorem covered (y : S16x10x507x507.Idx) :
    ∃ t : Fin cfg0.N, (cfg0.win 1).flush t = true ∧ y ∈ ((cfg0.win 1).blk t).view.set := by
  idx_vars y
  exact ⟨y0, flush0_1 _, mem_point y0 y1 y2 y3⟩

/-- The kernel's result is the batch's histograms. -/
theorem final (c : Dev nD) : (dats m 0 c).arrAt 1 cfg0.N = batch (m ((c : Thread nD τ).loc main_arg0)) :=
  ((dats m 0 c).arrAt_eq_of_cover 1 (batch (V m c main_arg0)) (fun t _ => written m c t) covered).trans
    (by rw [V_main_arg0])

/-- The kernel's run: the histograms of the batch, the argument unchanged. -/
theorem run : θ_run defs (onTc (τ := τ) (main (F := Ideal))) ⟨m, fun _ => 0, ρ⟩ fun r => ∀ c : Dev nD,
      r.2.mem ((c : Thread nD τ).loc main_v0) = batch (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.Hog

end
-- ==== Proof.RefPixel.lean ====
/- The reference at one pixel: the gradients, the angle in bins, the weights of the two votes and the bins' numbers. -/
module

public import proofs.«01_k».proof.Proof.Image
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Hog

open Cert.ReferenceIdeal Cert.ReferenceIdeal.Gen Cert.ReferenceIdeal.Value Cert.Hog Idealize.ShloMosaic Idealize.SL.Sem

variable (V : Valuation τ sig (Elt Ideal)) (n : Fin 16) (h w : Fin 512)

/-- Image `n` of the batch, by row and column. -/
def picture (x : Vec Ideal S16x1x512x512 .f32) (n : Fin 16) : Fin 512 → Fin 512 → EReal := fun r c => x (ix4 n 0 r c)

/-- Image `n` of the argument. -/
def arg : Fin 512 → Fin 512 → EReal := picture (V (Proc.tc.devRef main_arg0)) n

/-- The whole number 0 as a float. -/
theorem zeroF : FloatOps.sitofp (F := Ideal) .f32 0#32 = 0 := by
  change (((0#32 : BitVec 32).toInt : ℝ) : EReal) = 0
  rw [show (0#32 : BitVec 32).toInt = 0 by decide, Int.cast_zero, EReal.coe_zero]

/-- The padded image. -/
theorem pad_at (r c : Fin 514) : (res_main_v1 V (ix3 n r c) : EReal) = padded (arg V n) r.val c.val := by
  unfold res_main_v1
  clean_types
  pointwise []
  rw [zeroF]
  rfl

/-- The gradient across the columns. -/
theorem gx_at : (res_main_v14 V (ix3 n h w) : EReal) = gradX (arg V n) h.val w.val := by
  unfold res_main_v14
  clean_types
  pointwise []
  rw [pad_at, pad_at, pad_at, pad_at, pad_at, pad_at]
  unfold gradX
  rw [bits_2]
  simp only [Nat.add_comm 1, Nat.add_comm 2]

/-- The gradient down the rows. -/
theorem gy_at : (res_main_v29 V (ix3 n h w) : EReal) = gradY (arg V n) h.val w.val := by
  unfold res_main_v29
  clean_types
  pointwise []
  rw [pad_at, pad_at, pad_at, pad_at, pad_at, pad_at]
  unfold gradY
  rw [bits_2]
  simp only [Nat.add_comm 1, Nat.add_comm 2]

/-- The magnitude. -/
theorem mag_at : (res_main_v33 V (ix3 n h w) : EReal) = mag (gradX (arg V n) h.val w.val) (gradY (arg V n) h.val w.val) := by
  unfold res_main_v33
  clean_types
  pointwise []
  rw [gx_at, gy_at]
  rfl

/-- The ratio of the gradients' absolute values. -/
theorem ratio_at : (res_main_v41 V (ix3 n h w) : EReal)
    = Ideal.div (max (gradX (arg V n) h.val w.val) (-gradX (arg V n) h.val w.val))
        (max (gradY (arg V n) h.val w.val) (-gradY (arg V n) h.val w.val)) := by
  unfold res_main_v41 res_main_v34 res_main_v35
  clean_types
  pointwise []
  rw [gx_at, gy_at]
  rfl

/-- The arctangent's reduced argument. -/
theorem arg_at : (res_main_v56 V (ix3 n h w) : EReal) = refArg (res_main_v41 V (ix3 n h w)) := by
  unfold res_main_v56 res_main_v43 res_main_v47
  clean_types
  pointwise []
  unfold refArg
  rw [bits_cut, bits_neg1]

/-- The absolute value of the gradient down the rows. -/
theorem ay_at : (res_main_v34 V (ix3 n h w) : EReal) = max (gradY (arg V n) h.val w.val) (-gradY (arg V n) h.val w.val) := by
  unfold res_main_v34
  pointwise []
  rw [gy_at]
  rfl

/-- The absolute value of the gradient across the columns. -/
theorem ax_at : (res_main_v35 V (ix3 n h w) : EReal) = max (gradX (arg V n) h.val w.val) (-gradX (arg V n) h.val w.val) := by
  unfold res_main_v35
  pointwise []
  rw [gx_at]
  rfl

/-- The angle of the absolute values. -/
theorem quarter_at : (res_main_v75 V (ix3 n h w) : EReal)
    = refQuarter (max (gradY (arg V n) h.val w.val) (-gradY (arg V n) h.val w.val))
        (max (gradX (arg V n) h.val w.val) (-gradX (arg V n) h.val w.val)) := by
  unfold res_main_v75 res_main_v59 res_main_v43 res_main_v47
  simp only [id_eq]
  clean_types
  pointwise []
  rw [arg_at, ay_at, ax_at, ratio_at, bits_cut, bits_pi2, bits_pi4, bits_c3, bits_c2, bits_c1, bits_c0]
  rfl

/-- The angle in bins. -/
theorem pos_at : (res_main_v88 V (ix3 n h w) : EReal) = refPos (gradX (arg V n) h.val w.val) (gradY (arg V n) h.val w.val) := by
  unfold res_main_v88 res_main_v80
  clean_types
  pointwise []
  rw [gx_at, gy_at, quarter_at, bits_pi, bits_10]
  rfl

/-- The angle wrapped. -/
theorem wrap_at : (res_main_v93 V (ix3 n h w) : EReal) = refMod (res_main_v88 V (ix3 n h w)) := by
  unfold res_main_v93 res_main_call11_v2 res_main_call11_v0
  clean_types
  pointwise []
  rfl

/-- The lower bin's number. -/
theorem bin_at : (res_main_v104 V (ix3 n h w) : BitVec 32) = refBin (res_main_v88 V (ix3 n h w)) := by
  unfold res_main_v104 res_main_call12_v4 res_main_call12_v2 res_main_call12_v0
  simp only [id_eq]
  clean_types
  pointwise []
  rfl

/-- The upper bin's number. -/
theorem top_at : (res_main_v107 V (ix3 n h w) : BitVec 32) = refTop (res_main_v88 V (ix3 n h w)) := by
  unfold res_main_v107 res_main_call13_v4 res_main_call13_v2 res_main_call13_v0
  simp only [id_eq]
  clean_types
  pointwise []
  rfl

end Cert.ReferenceIdeal.Hog

end
-- ==== Proof.RefScatter.lean ====
/- The reference's vote image. Two scatters place each pixel's two votes: the first writes the lower bin's vote, the second
   adds the upper bin's. The index of a vote is its image, bin, row and column, so each place of the vote image receives at
   most one vote from each scatter. -/
module

public import proofs.«01_k».proof.Proof.RefPixel
public import Idealize.ShloMosaic.Lib.Routing.Ops
public import Idealize.ShloMosaic.Lib.Routing.OpsPair
public import Idealize.ShloMosaic.Lib.Routing.OpsSet

@[expose] public section

set_option maxRecDepth 16384

noncomputable section

namespace Cert.ReferenceIdeal.Hog

open Cert.ReferenceIdeal Cert.ReferenceIdeal.Gen Cert.ReferenceIdeal.Value Cert.Hog Idealize.ShloMosaic
  Idealize.ShloMosaic.Routing Idealize.SL.Sem

/-- The four words of a vote's index, its bin's number given. -/
def place (V : Valuation τ sig (Elt Ideal)) (b : IVec S16x512x512 32) : IVec S16x512x512x4 32 :=
  concatenate S16x512x512x4 3
    [⟨S16x512x512x1, broadcastInDim S16x512x512x1 ![0, 1, 2] bcast_S16x512x512_S16x512x512x1_0_1_2
        (broadcastInDim S16x512x512 ![0, 1, 2] bcast_S16x1x1_S16x512x512_0_1_2
          (select (cmpi .slt (res_main_v110 V) (broadcastInDim S16x1x1 ![] bcast_S_S16x1x1 (constantI S_ 32 0#32)))
            (addi (res_main_v110 V) (broadcastInDim S16x1x1 ![] bcast_S_S16x1x1 (constantI S_ 32 16#32))) (res_main_v110 V)))⟩,
     ⟨S16x512x512x1, broadcastInDim S16x512x512x1 ![0, 1, 2] bcast_S16x512x512_S16x512x512x1_0_1_2
        (select (cmpi .slt b (broadcastInDim S16x512x512 ![] bcast_S_S16x512x512 (constantI S_ 32 0#32)))
          (addi b (broadcastInDim S16x512x512 ![] bcast_S_S16x512x512 (constantI S_ 32 10#32))) b)⟩,
     ⟨S16x512x512x1, broadcastInDim S16x512x512x1 ![0, 1, 2] bcast_S16x512x512_S16x512x512x1_0_1_2
        (broadcastInDim S16x512x512 ![0, 1, 2] bcast_S1x512x1_S16x512x512_0_1_2
          (select (cmpi .slt (res_main_v112 V) (broadcastInDim S1x512x1 ![] bcast_S_S1x512x1 (constantI S_ 32 0#32)))
            (addi (res_main_v112 V) (broadcastInDim S1x512x1 ![] bcast_S_S1x512x1 (constantI S_ 32 512#32))) (res_main_v112 V)))⟩,
     ⟨S16x512x512x1, broadcastInDim S16x512x512x1 ![0, 1, 2] bcast_S16x512x512_S16x512x512x1_0_1_2
        (broadcastInDim S16x512x512 ![0, 1, 2] bcast_S1x1x512_S16x512x512_0_1_2
          (select (cmpi .slt (res_main_v114 V) (broadcastInDim S1x1x512 ![] bcast_S_S1x1x512 (constantI S_ 32 0#32)))
            (addi (res_main_v114 V) (broadcastInDim S1x1x512 ![] bcast_S_S1x1x512 (constantI S_ 32 512#32))) (res_main_v114 V)))⟩]
    concatenates_S16x512x512x1_S16x512x512x1_S16x512x512x1_S16x512x512x1_S16x512x512x4_d3

/-- The scatter's axes. -/
abbrev axes : ScatterDims S16x10x512x512 S16x512x512x4 S16x512x512 :=
  scatter_S16x10x512x512_S16x512x512x4_S16x512x512_n_0123_0123_3

/-- No axis of the vote image is a window's. -/
theorem window_zero (j : S16x512x512.Idx) (a : Fin 4) : axes.window j a = 0 := by
  fin_cases a <;> rfl

/-- A vote's place on each axis is the index word for that axis. -/
theorem start_at (n : Fin 16) (h w : Fin 512) (idx : IVec S16x512x512x4 32) (a : Fin 4) :
    axes.start (ix3 n h w) idx a = (idx (ix4 n h w a)).toInt := by
  unfold ScatterDims.start
  have ha : a ∈ axes.scatterDimsToOperandDims := by
    change a ∈ ([0, 1, 2, 3] : List (Fin 4))
    fin_cases a <;> decide
  rw [dif_pos ha]
  congr 2
  funext b
  fin_cases a <;> fin_cases b <;> rfl

variable (V : Valuation τ sig (Elt Ideal)) (b : IVec S16x512x512 32) (n : Fin 16) (h w : Fin 512)

/-- A word below half its range is its own signed reading. -/
theorem small_word (x : ℕ) (hx : x < 1024) (y : BitVec 32) :
    Scalar.select (IntOp.cmpi .slt (BitVec.ofNat 32 x) 0#32) y (BitVec.ofNat 32 x) = BitVec.ofNat 32 x :=
  wrap_of_lt _ _ (by rw [BitVec.toNat_ofNat]; omega)

/-- The index word for the image. -/
theorem place0 : place V b (ix4 n h w 0) = BitVec.ofNat 32 n.val := by
  unfold place res_main_v110
  clean_types
  pointwise []
  exact small_word n.val (by omega) _

/-- The index word for the bin. -/
theorem place1 (k : Fin 10) (hb : b (ix3 n h w) = BitVec.ofNat 32 k.val) : place V b (ix4 n h w 1) = BitVec.ofNat 32 k.val := by
  unfold place
  clean_types
  pointwise []
  rw [hb]
  exact small_word k.val (by omega) _

/-- The index word for the row. -/
theorem place2 : place V b (ix4 n h w 2) = BitVec.ofNat 32 h.val := by
  unfold place res_main_v112
  clean_types
  pointwise []
  exact small_word h.val (by omega) _

/-- The index word for the column. -/
theorem place3 : place V b (ix4 n h w 3) = BitVec.ofNat 32 w.val := by
  unfold place res_main_v114
  clean_types
  pointwise []
  exact small_word w.val (by omega) _

/-- A small word read signed is the number it was made from. -/
theorem small_toInt (x : ℕ) (hx : x < 1024) : (BitVec.ofNat 32 x).toInt = (x : ℤ) := by
  rw [BitVec.toInt_eq_toNat_cond, BitVec.toNat_ofNat]
  split_ifs <;> omega

/-- Where a vote lands: at its own image, bin, row and column. -/
theorem lands (k : Fin 10) (hb : b (ix3 n h w) = BitVec.ofNat 32 k.val) (n' : Fin 16) (k' : Fin 10) (h' w' : Fin 512) :
    axes.resultIdx? (ix3 n h w) (place V b) = some (ix4 n' k' h' w') ↔ n = n' ∧ k = k' ∧ h = h' ∧ w = w' := by
  rw [resultIdx?_eq_some]
  have e : ∀ a : Fin 4, axes.start (ix3 n h w) (place V b) a + (axes.window (ix3 n h w) a : ℤ)
      = (place V b (ix4 n h w a)).toInt := fun a => by rw [start_at, window_zero]; simp
  have e0 := (e 0).trans (by rw [place0, small_toInt _ (by omega)] : _ = (n.val : ℤ))
  have e1 := (e 1).trans (by rw [place1 V b n h w k hb, small_toInt _ (by omega)] : _ = (k.val : ℤ))
  have e2 := (e 2).trans (by rw [place2, small_toInt _ (by omega)] : _ = (h.val : ℤ))
  have e3 := (e 3).trans (by rw [place3, small_toInt _ (by omega)] : _ = (w.val : ℤ))
  constructor
  · intro q
    have q0 : (n.val : ℤ) = n'.val := e0.symm.trans (q 0)
    have q1 : (k.val : ℤ) = k'.val := e1.symm.trans (q 1)
    have q2 : (h.val : ℤ) = h'.val := e2.symm.trans (q 2)
    have q3 : (w.val : ℤ) = w'.val := e3.symm.trans (q 3)
    exact ⟨Fin.ext (by omega), Fin.ext (by omega), Fin.ext (by omega), Fin.ext (by omega)⟩
  · rintro ⟨rfl, rfl, rfl, rfl⟩ a
    match a with
    | ⟨0, _⟩ => exact e0
    | ⟨1, _⟩ => exact e1
    | ⟨2, _⟩ => exact e2
    | ⟨3, _⟩ => exact e3

/-- The scatter that writes, at one place: the vote of that place's pixel when it is for that place's bin. -/
theorem write_at (hb : ∀ (n : Fin 16) (h w : Fin 512), ∃ k : Fin 10, b (ix3 n h w) = BitVec.ofNat 32 k.val)
    (z : FVec Ideal S16x10x512x512 .f32) (u : FVec Ideal S16x512x512 .f32) (k : Fin 10) :
    Host.scatter axes (fun _ b => b) z (place V b) u (ix4 n k h w)
      = if b (ix3 n h w) = BitVec.ofNat 32 k.val then u (ix3 n h w) else z (ix4 n k h w) := by
  obtain ⟨k', hk⟩ := hb n h w
  by_cases e : k' = k
  · subst e
    rw [if_pos hk]
    refine scatter_set_hit axes z (place V b) u _ _ (fun j hj => ?_) (ix3 n h w)
      ((lands V b n h w k' hk n k' h w).mpr ⟨rfl, rfl, rfl, rfl⟩)
    idx_vars j
    obtain ⟨k2, hk2⟩ := hb j0 j1 j2
    obtain ⟨rfl, -, rfl, rfl⟩ := (lands V b j0 j1 j2 k2 hk2 n k' h w).mp hj
    rfl
  · have ne : ¬ b (ix3 n h w) = BitVec.ofNat 32 k.val := by
      rw [hk]
      intro q
      have := congrArg BitVec.toNat q
      rw [BitVec.toNat_ofNat, BitVec.toNat_ofNat] at this
      exact e (Fin.ext (by omega))
    rw [if_neg ne]
    refine scatter_set_miss axes z (place V b) u _ (fun j hj => ?_)
    idx_vars j
    obtain ⟨k2, hk2⟩ := hb j0 j1 j2
    obtain ⟨rfl, rfl, rfl, rfl⟩ := (lands V b j0 j1 j2 k2 hk2 n k h w).mp hj
    exact ne hk2

/-- The scatter that adds, at one place: the pixel's vote added when it is for that place's bin. -/
theorem add_at (hb : ∀ (n : Fin 16) (h w : Fin 512), ∃ k : Fin 10, b (ix3 n h w) = BitVec.ofNat 32 k.val)
    (z : FVec Ideal S16x10x512x512 .f32) (u : FVec Ideal S16x512x512 .f32) (k : Fin 10) :
    Host.scatterAdd axes z (place V b) u (ix4 n k h w)
      = z (ix4 n k h w) + (if b (ix3 n h w) = BitVec.ofNat 32 k.val then u (ix3 n h w) else 0) := by
  change z (ix4 n k h w) + ∑ j ∈ Finset.univ.filter (fun j => axes.resultIdx? j (place V b) = some (ix4 n k h w)), u j = _
  congr 1
  have only : ∀ j : S16x512x512.Idx, axes.resultIdx? j (place V b) = some (ix4 n k h w) →
      j = ix3 n h w ∧ b (ix3 n h w) = BitVec.ofNat 32 k.val := by
    intro j hj
    idx_vars j
    obtain ⟨k2, hk2⟩ := hb j0 j1 j2
    obtain ⟨rfl, rfl, rfl, rfl⟩ := (lands V b j0 j1 j2 k2 hk2 n k h w).mp hj
    exact ⟨rfl, hk2⟩
  split_ifs with e
  · rw [show Finset.univ.filter (fun j => axes.resultIdx? j (place V b) = some (ix4 n k h w)) = {ix3 n h w} from ?_,
      Finset.sum_singleton]
    ext j
    rw [Finset.mem_filter, Finset.mem_singleton]
    constructor
    · exact fun hj => (only j hj.2).1
    · rintro rfl
      exact ⟨Finset.mem_univ _, (lands V b n h w k e n k h w).mpr ⟨rfl, rfl, rfl, rfl⟩⟩
  · refine Finset.sum_eq_zero (fun j hj => ?_)
    exact absurd (only j (Finset.mem_filter.mp hj).2).2 e

/-- The reference's votes for the lower bin. -/
def low : FVec Ideal S16x512x512 .f32 :=
  mulf (res_main_v33 V) (subf (broadcastInDim S16x512x512 ![] bcast_S_S16x512x512 (constant S_ .f32 0x3F800000#32)) (subf (res_main_v93 V) (select (andi (cmpi .ne (cmpf .olt (res_main_call9_v2 V) (broadcastInDim S16x512x512 ![] bcast_S_S16x512x512 (constant S_ .f32 0x00000000#32))) (broadcastInDim S16x512x512 ![] bcast_S_S16x512x512 (cmpf .olt (res_main_call9_v0 V) (constant S_ .f32 0x00000000#32)))) (cmpf .une (res_main_call9_v2 V) (broadcastInDim S16x512x512 ![] bcast_S_S16x512x512 (constant S_ .f32 0x00000000#32)))) (addf (res_main_call9_v2 V) (broadcastInDim S16x512x512 ![] bcast_S_S16x512x512 (res_main_call9_v0 V))) (res_main_call9_v2 V))))

/-- The reference's votes for the upper bin. -/
def high : FVec Ideal S16x512x512 .f32 :=
  mulf (res_main_v33 V) (subf (broadcastInDim S16x512x512 ![] bcast_S_S16x512x512 (constant S_ .f32 0x3F800000#32)) (subf (select (andi (cmpi .ne (cmpf .olt (res_main_call10_v2 V) (broadcastInDim S16x512x512 ![] bcast_S_S16x512x512 (constant S_ .f32 0x00000000#32))) (broadcastInDim S16x512x512 ![] bcast_S_S16x512x512 (cmpf .olt (res_main_call10_v0 V) (constant S_ .f32 0x00000000#32)))) (cmpf .une (res_main_call10_v2 V) (broadcastInDim S16x512x512 ![] bcast_S_S16x512x512 (constant S_ .f32 0x00000000#32)))) (addf (res_main_call10_v2 V) (broadcastInDim S16x512x512 ![] bcast_S_S16x512x512 (res_main_call10_v0 V))) (res_main_call10_v2 V)) (res_main_v93 V)))

/-- A vote for the lower bin: the magnitude times the lower weight. -/
theorem low_at : (low V (ix3 n h w) : EReal)
    = mag (gradX (arg V n) h.val w.val) (gradY (arg V n) h.val w.val)
      * refLow (refPos (gradX (arg V n) h.val w.val) (gradY (arg V n) h.val w.val)) := by
  unfold low res_main_call9_v2 res_main_call9_v0
  clean_types
  pointwise []
  rw [mag_at, wrap_at, pos_at]
  rfl

/-- A vote for the upper bin: the magnitude times the upper weight. -/
theorem high_at : (high V (ix3 n h w) : EReal)
    = mag (gradX (arg V n) h.val w.val) (gradY (arg V n) h.val w.val)
      * refHigh (refPos (gradX (arg V n) h.val w.val) (gradY (arg V n) h.val w.val)) := by
  unfold high res_main_call10_v2 res_main_call10_v0
  clean_types
  pointwise []
  rw [mag_at, wrap_at, pos_at]
  rfl

/-- The reference's vote image is the two scatters, one after the other. -/
theorem two_scatters : res_main_v172 V = Host.scatterAdd axes
    (Host.scatter axes (fun _ b => b) (broadcastInDim S16x10x512x512 ![] bcast_S_S16x10x512x512 (constant S_ .f32 0x00000000#32))
      (place V (res_main_v104 V)) (low V)) (place V (res_main_v107 V)) (high V) := rfl

/-- The reference's vote image, at one place. -/
theorem votes_at (k : Fin 10) : (res_main_v172 V (ix4 n k h w) : EReal)
    = refCell (gradX (arg V n) h.val w.val) (gradY (arg V n) h.val w.val) k := by
  have hb : ∀ (n : Fin 16) (h w : Fin 512), (∃ k : Fin 10, (res_main_v104 V (ix3 n h w) : BitVec 32) = BitVec.ofNat 32 k.val)
      ∧ ∃ k : Fin 10, (res_main_v107 V (ix3 n h w) : BitVec 32) = BitVec.ofNat 32 k.val := by
    intro n h w
    obtain ⟨p, p0, p1, -, hp⟩ := pos (gradX (arg V n) h.val w.val) (gradY (arg V n) h.val w.val)
    obtain ⟨kb, kt, -, -, -, -, -, -, -, -, eb, et, -, -⟩ := bins p p0 p1
    exact ⟨⟨kb, by rw [bin_at, pos_at, hp]; exact eb⟩, ⟨kt, by rw [top_at, pos_at, hp]; exact et⟩⟩
  rw [two_scatters]
  refine (add_at V _ n h w (fun n h w => (hb n h w).2) _ _ k).trans ?_
  rw [write_at V _ n h w (fun n h w => (hb n h w).1) _ _ k]
  unfold refCell
  rw [low_at, high_at, bin_at, top_at, pos_at]
  pointwise []

end Cert.ReferenceIdeal.Hog

end
-- ==== Proof.RefPool.lean ====
/- The reference's result: eight by eight windows of the vote image summed, the image padded by one row and column of
   zeros on each side, and the sums divided by 64. -/
module

public import proofs.«01_k».proof.Proof.RefScatter

@[expose] public section

set_option maxRecDepth 16384

noncomputable section

namespace Cert.ReferenceIdeal.Hog

open Cert.ReferenceIdeal Cert.ReferenceIdeal.Gen Cert.ReferenceIdeal.Value Cert.Hog Idealize.ShloMosaic Idealize.SL.Sem

/-- Adding up a list's values one after the other gives their sum. -/
theorem fold_sum {ι : Type} (g : ι → EReal) (l : List ι) (v : EReal) :
    l.foldl (fun r k => r + g k) v = v + (l.map g).sum := by
  induction l generalizing v with
  | nil => simp
  | cons a l ih => rw [List.foldl_cons, ih, List.map_cons, List.sum_cons, add_assoc]

/-- One place of a window: the vote there, zero in the padding. -/
def inside (x : S16x10x512x512.Idx → EReal) (y : S16x10x507x507.Idx) (q : (⟨4, ![1, 1, 8, 8]⟩ : Shape).Idx) : EReal :=
  if hin : ∀ a : Fin 4, (![0, 0, 1, 1] : Fin 4 → ℕ) a ≤ (y a).val * (![1, 1, 1, 1] : Fin 4 → ℕ) a + (q a).val
      ∧ (y a).val * (![1, 1, 1, 1] : Fin 4 → ℕ) a + (q a).val - (![0, 0, 1, 1] : Fin 4 → ℕ) a < S16x10x512x512.size a then
    x (fun a => ⟨(y a).val * (![1, 1, 1, 1] : Fin 4 → ℕ) a + (q a).val - (![0, 0, 1, 1] : Fin 4 → ℕ) a, (hin a).2⟩)
  else 0

/-- One place of a window, by its row and column. -/
theorem inside_at (x : S16x10x512x512.Idx → EReal) (n : Fin 16) (k : Fin 10) (i j : Fin 507) (d e : Fin 8) :
    inside x (ix4 n k i j) (ix4 (0 : Fin 1) (0 : Fin 1) d e)
      = if h : (1 ≤ i.val + d.val ∧ i.val + d.val - 1 < 512) ∧ 1 ≤ j.val + e.val ∧ j.val + e.val - 1 < 512 then
          x (ix4 n k ⟨i.val + d.val - 1, h.1.2⟩ ⟨j.val + e.val - 1, h.2.2⟩) else 0 := by
  have hn := n.isLt
  have hk := k.isLt
  unfold inside
  by_cases h : (1 ≤ i.val + d.val ∧ i.val + d.val - 1 < 512) ∧ 1 ≤ j.val + e.val ∧ j.val + e.val - 1 < 512
  · rw [dif_pos h]
    rw [dif_pos (fun a => by
      match a with
      | ⟨0, _⟩ => show 0 ≤ n.val * 1 + 0 ∧ n.val * 1 + 0 - 0 < 16; omega
      | ⟨1, _⟩ => show 0 ≤ k.val * 1 + 0 ∧ k.val * 1 + 0 - 0 < 10; omega
      | ⟨2, _⟩ => show 1 ≤ i.val * 1 + d.val ∧ i.val * 1 + d.val - 1 < 512; omega
      | ⟨3, _⟩ => show 1 ≤ j.val * 1 + e.val ∧ j.val * 1 + e.val - 1 < 512; omega)]
    congr 1
    funext a
    apply Fin.ext
    match a with
    | ⟨0, _⟩ => show n.val * 1 + 0 - 0 = n.val; omega
    | ⟨1, _⟩ => show k.val * 1 + 0 - 0 = k.val; omega
    | ⟨2, _⟩ => show i.val * 1 + d.val - 1 = i.val + d.val - 1; omega
    | ⟨3, _⟩ => show j.val * 1 + e.val - 1 = j.val + e.val - 1; omega
  · rw [dif_neg h, dif_neg]
    intro q
    have q2 : 1 ≤ i.val * 1 + d.val ∧ i.val * 1 + d.val - 1 < 512 := q 2
    have q3 : 1 ≤ j.val * 1 + e.val ∧ j.val * 1 + e.val - 1 < 512 := q 3
    omega

/-- A window's sum, by rows and columns. -/
theorem window_sum (x : FVec Ideal S16x10x512x512 .f32) (y : S16x10x507x507.Idx) :
    Ideal.hostReduceWindowAdd ![1, 1, 8, 8] ![1, 1, 1, 1] ![0, 0, 1, 1] ![0, 0, 1, 1]
        reduceWindows_S16x10x512x512_S16x10x507x507_w1s1p0_0_w1s1p0_0_w8s1p1_1_w8s1p1_1 x 0 y
      = ∑ d : Fin 8, ∑ e : Fin 8, inside x y (ix4 (0 : Fin 1) (0 : Fin 1) d e) := by
  unfold Ideal.hostReduceWindowAdd Host.reduceWindow
  dsimp only
  refine (fold_sum _ _ _).trans ?_
  rw [zero_add, ← Fin.sum_univ_def]
  refine (Fintype.sum_congr _ (fun m => inside x y ((Shape.rowMajor (⟨4, ![1, 1, 8, 8]⟩ : Shape)).symm m)) (fun m => ?_)).trans ?_
  · unfold inside
    exact dite_congr rfl (fun _ => rfl) (fun _ => rfl)
  · rw [Equiv.sum_comp (Shape.rowMajor (⟨4, ![1, 1, 8, 8]⟩ : Shape)).symm (inside x y), sum_idx4, Fin.sum_univ_one, Fin.sum_univ_one]

/-- The histograms of the whole batch. -/
def batch (x : Vec Ideal S16x1x512x512 .f32) : Vec Ideal S16x10x507x507 .f32 :=
  fun y => hist (picture x (y 0)) (y 1) (y 2).val (y 3).val

variable (V : Valuation τ sig (Elt Ideal))

/-- The reference's result is the batch's histograms. -/
theorem result_eq :
    Host.divf (F := Ideal) (φ := .f32)
        (Host.reduceWindowAdd (s := S16x10x512x512) (t := S16x10x507x507) ![1, 1, 8, 8] ![1, 1, 1, 1] ![0, 0, 1, 1] ![0, 0, 1, 1]
          (res_main_v172 V) (broadcastInDim S_ ![] bcast_S_S_ (constant S_ .f32 0x00000000#32))
          reduceWindows_S16x10x512x512_S16x10x507x507_w1s1p0_0_w1s1p0_0_w8s1p1_1_w8s1p1_1 h_S_)
        (broadcastInDim S16x10x507x507 ![] bcast_S_S16x10x507x507 (constant S_ .f32 0x42800000#32))
      = batch (V (Proc.tc.devRef main_arg0)) := by
  funext y
  idx_vars y
  have z : (broadcastInDim S_ ![] bcast_S_S_ (constant (F := Ideal) S_ .f32 0x00000000#32) (Shape.Idx.first h_S_) : EReal) = 0 := by
    pointwise []
  unfold Host.reduceWindowAdd
  rw [Ideal.hostReduceWindowAdd_def, z]
  pointwise []
  rw [window_sum, bits_64]
  simp only [inside_at]
  have hx : ∀ r c : Fin 512, (res_main_v172 V (ix4 y0 y1 r c) : EReal)
      = refCell (gradX (arg V y0) r.val c.val) (gradY (arg V y0) r.val c.val) y1 := fun r c => votes_at V y0 r c y1
  generalize (res_main_v172 V : S16x10x512x512.Idx → EReal) = x at hx ⊢
  have e : ∀ d e : Fin 8, (if h : (1 ≤ y2.val + d.val ∧ y2.val + d.val - 1 < 512) ∧ 1 ≤ y3.val + e.val ∧ y3.val + e.val - 1 < 512 then
        x (ix4 y0 y1 ⟨y2.val + d.val - 1, h.1.2⟩ ⟨y3.val + e.val - 1, h.2.2⟩) else (0 : EReal))
      = votes (arg V y0) y1 (y2.val + d.val) (y3.val + e.val) := by
    intro d e
    unfold votes
    split_ifs with h
    · exact hx _ _
    · rfl
  simp only [e]
  change Ideal.div (∑ d : Fin 8, ∑ e : Fin 8, votes (arg V y0) y1 (y2.val + d.val) (y3.val + e.val)) ((64 : ℝ) : EReal)
    = (∑ d : Fin 8, ∑ e : Fin 8, votes (arg V y0) y1 (y2.val + d.val) (y3.val + e.val)) * ((1 / 64 : ℝ) : EReal)
  unfold Ideal.div
  rw [if_neg (by exact_mod_cast (by norm_num : (64 : ℝ) ≠ 0)), ← EReal.coe_inv, one_div]

end Cert.ReferenceIdeal.Hog

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Array
public import proofs.«01_k».proof.Proof.RefPool
public import Idealize.ShloMosaic.Lib.Quiescent
public import Idealize.ShloMosaic.Adequacy
public import Idealize.ShloMosaic.Init

@[expose] public section

noncomputable section

namespace Cert.Proof

open Idealize.ShloMosaic Idealize.SL.Sem

/-- The reference's run: the histograms of the batch, the argument unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v176)
          = Cert.ReferenceIdeal.Hog.batch (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run _ _ _).mono (fun _ h c => ⟨(h c).1.trans (Cert.ReferenceIdeal.Hog.result_eq _), (h c).2⟩)
    (Cert.ReferenceIdeal.Value.run m ρ)

/-- The reference ends with its argument unchanged and, having no counters, with every counter at zero. -/
theorem reference_frame : Cert.quiescent_ReferenceIdeal := fun m ρ _ =>
  (θ_run _ _ _).mono (fun r h => ⟨fun c => (h c).2, sem_eq_zero_of_no_sems (by decide) r.2⟩) (reference_run m ρ)

/-- The kernel's constant is the one named. -/
theorem constant_named : Cert.preserves_Kernel_KernelIdeal :=
  IdealRules.named_const.statement Cert.KernelIdeal.κ "bins_per_radian" .f32 0x404BB7E4#32 ((8388608 / 2635359 : ℝ) : EReal) rfl

/-- From the same batch of images the kernel and the reference leave the same histograms. -/
theorem same_histograms : Cert.algebraic_KernelIdeal_ReferenceIdeal := fun m ρ m' ρ' _ same =>
  ⟨fun c => Cert.KernelIdeal.Hog.batch
      (m ((c.tc : Thread Cert.KernelIdeal.nD Cert.KernelIdeal.τ).loc Cert.KernelIdeal.main_arg0)),
    Cert.KernelIdeal.Hog.run m ρ,
    (θ_run _ _ _).mono
      (fun _ h c => ⟨(h c).1.trans (congrArg Cert.KernelIdeal.Hog.batch (same c)), (h c).2⟩) (reference_run m' ρ')⟩

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, constant_named,
  same_histograms⟩

end Cert.Proof

end
